-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_on_search_converged_pre_finite_inputs [hKernelIdeal : Cert.KernelIdeal.Facts] [hReferenceIdeal : Cert.ReferenceIdeal.Facts] [hPre_finite_inputs : Cert.Pre_finite_inputs.Facts] [hOn_search_converged : Cert.On_search_converged.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![4, 2048, 1024]⟩ : Shape).Idx, (Cert.On_search_converged.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![4, 2048, 1024]⟩ : Shape).Idx, (Cert.On_search_converged.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) i = 1#1 → r.2.mem ((c.tc : Thread Cert.ReferenceIdeal.nD Cert.ReferenceIdeal.τ).loc Cert.ReferenceIdeal.main_v49) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts) (hOn_search_converged : Cert.On_search_converged.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_on_search_converged_pre_finite_inputs (hKernelIdeal := hKernelIdeal) (hReferenceIdeal := hReferenceIdeal) (hPre_finite_inputs := hPre_finite_inputs) (hOn_search_converged := hOn_search_converged)
-- ==== On_search_converged.lean ====
abbrev S4x2048x1024 : Shape := ⟨3, ![4, 2048, 1024]⟩
abbrev S1024x32 : Shape := ⟨2, ![1024, 32]⟩
abbrev S4x2048x32 : Shape := ⟨3, ![4, 2048, 32]⟩
abbrev S4x2048x2048 : Shape := ⟨3, ![4, 2048, 2048]⟩
abbrev S_ : Shape := ⟨0, ![]⟩
abbrev S4x2048 : Shape := ⟨2, ![4, 2048]⟩

class Facts : Prop where
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x2048_0_1 : S4x2048.BroadcastsInDim S4x2048x2048 (![0, 1] : Fin 2 → Fin S4x2048x2048.rank)
  bcast_S4x2048_S4x2048x1024_0_1 : S4x2048.BroadcastsInDim S4x2048x1024 (![0, 1] : Fin 2 → Fin S4x2048x1024.rank)
  dot_S4x2048x1024_S1024x32_S4x2048x32_2_0_01_1_n_n_wf : DotDims.WF S4x2048x1024 S1024x32 S4x2048x32 [2] [0] [0, 1] [1] [] []
  dot_S4x2048x32_S4x2048x32_S4x2048x2048_2_2_1_1_0_0_wf : DotDims.WF S4x2048x32 S4x2048x32 S4x2048x2048 [2] [2] [1] [1] [0] [0]

variable [Facts]

def dot_S4x2048x1024_S1024x32_S4x2048x32_2_0_01_1_n_n : DotDims S4x2048x1024 S1024x32 S4x2048x32 where
  lhsContracting := [2]
  rhsContracting := [0]
  lhsNonContracting := [0, 1]
  rhsNonContracting := [1]
  lhsBatch := []
  rhsBatch := []
  wf := dot_S4x2048x1024_S1024x32_S4x2048x32_2_0_01_1_n_n_wf
def dot_S4x2048x32_S4x2048x32_S4x2048x2048_2_2_1_1_0_0 : DotDims S4x2048x32 S4x2048x32 S4x2048x2048 where
  lhsContracting := [2]
  rhsContracting := [2]
  lhsNonContracting := [1]
  rhsNonContracting := [1]
  lhsBatch := [0]
  rhsBatch := [0]
  wf := dot_S4x2048x32_S4x2048x32_S4x2048x2048_2_2_1_1_0_0_wf
def fn_part15 {F : FTy → Type} [FloatOps F] (main_v4 : FVec F S4x2048x2048 .f32) (main_v264 : FVec F S4x2048 .f32) (main_v272 : FVec F S4x2048 .f32) (main_v277 : FVec F S4x2048 .f32) (main_v278 : FVec F S4x2048 .f32) : IVec S4x2048x1024 1 :=
  let main_v279 : IVec S4x2048 1 := cmpf .oeq main_v264 main_v278
  let main_v280 : FVec F S4x2048 .f32 := select main_v279 main_v277 main_v272
  let main_v281 : FVec F S4x2048x2048 .f32 := broadcastInDim S4x2048x2048 ![0, 1] bcast_S4x2048_S4x2048x2048_0_1 main_v280
  let main_v282 : IVec S4x2048x2048 1 := cmpf .oge main_v4 main_v281
  let main_v283 : FVec F S4x2048x2048 .f32 := uitofp .f32 main_v282
  let main_cst_80 : FVec F S_ .f32 := constant S_ .f32 0x00000000#32
  let main_v284 : FVec F S4x2048 .f32 := (fun x v => Host.reduceAdd x v reducesTo_S4x2048x2048_S4x2048_d2 h_S_) main_v283 main_cst_80
  let main_cst_81 : FVec F S_ .f32 := constant S_ .f32 0x434C0000#32
  let main_v285 : FVec F S4x2048 .f32 := broadcastInDim S4x2048 ![] bcast_S_S4x2048 main_cst_81
  let main_v286 : IVec S4x2048 1 := cmpf .oeq main_v284 main_v285
  let main_v287 : IVec S4x2048x1024 1 := broadcastInDim S4x2048x1024 ![0, 1] bcast_S4x2048_S4x2048x1024_0_1 main_v286
  main_v287

def fn_part14 {F : FTy → Type} [FloatOps F] (main_v4 : FVec F S4x2048x2048 .f32) (main_v241 : IVec S4x2048 1) (main_v255 : FVec F S4x2048 .f32) (main_v256 : FVec F S4x2048 .f32) (main_v259 : FVec F S4x2048 .f32) (main_v260 : FVec F S4x2048 .f32) (main_v261 : FVec F S4x2048 .f32) : IVec S4x2048x1024 1 :=
  let main_v262 : FVec F S4x2048 .f32 := select main_v241 main_v260 main_v261
  let main_cst_73 : FVec F S_ .f32 := constant S_ .f32 0x434C0000#32
  let main_v263 : FVec F S4x2048 .f32 := broadcastInDim S4x2048 ![] bcast_S_S4x2048 main_cst_73
  let main_v264 : FVec F S4x2048 .f32 := subf main_v263 main_v259
  let main_v265 : FVec F S4x2048x2048 .f32 := broadcastInDim S4x2048x2048 ![0, 1] bcast_S4x2048_S4x2048x2048_0_1 main_v256
  let main_v266 : IVec S4x2048x2048 1 := cmpf .olt main_v4 main_v265
  let main_cst_74 : FVec F S_ .f32 := constant S_ .f32 0xFF7FC99E#32
  let main_v267 : FVec F S4x2048x2048 .f32 := broadcastInDim S4x2048x2048 ![] bcast_S_S4x2048x2048 main_cst_74
  let main_v268 : FVec F S4x2048x2048 .f32 := select main_v266 main_v4 main_v267
  let main_cst_75 : FVec F S_ .f32 := constant S_ .f32 0xFF800000#32
  let main_v269 : FVec F S4x2048 .f32 := (fun x v => Host.reduce FloatOps.maximumf x v reducesTo_S4x2048x2048_S4x2048_d2 h_S_) main_v268 main_cst_75
  let main_cst_76 : FVec F S_ .f32 := constant S_ .f32 0x3F800000#32
  let main_v270 : FVec F S4x2048 .f32 := broadcastInDim S4x2048 ![] bcast_S_S4x2048 main_cst_76
  let main_v271 : IVec S4x2048 1 := cmpf .oeq main_v264 main_v270
  let main_v272 : FVec F S4x2048 .f32 := select main_v271 main_v269 main_v255
  let main_v273 : FVec F S4x2048x2048 .f32 := broadcastInDim S4x2048x2048 ![0, 1] bcast_S4x2048_S4x2048x2048_0_1 main_v269
  let main_v274 : IVec S4x2048x2048 1 := cmpf .olt main_v4 main_v273
  let main_cst_77 : FVec F S_ .f32 := constant S_ .f32 0xFF7FC99E#32
  let main_v275 : FVec F S4x2048x2048 .f32 := broadcastInDim S4x2048x2048 ![] bcast_S_S4x2048x2048 main_cst_77
  let main_v276 : FVec F S4x2048x2048 .f32 := select main_v274 main_v4 main_v275
  let main_cst_78 : FVec F S_ .f32 := constant S_ .f32 0xFF800000#32
  let main_v277 : FVec F S4x2048 .f32 := (fun x v => Host.reduce FloatOps.maximumf x v reducesTo_S4x2048x2048_S4x2048_d2 h_S_) main_v276 main_cst_78
  let main_cst_79 : FVec F S_ .f32 := constant S_ .f32 0x40000000#32
  let main_v278 : FVec F S4x2048 .f32 := broadcastInDim S4x2048 ![] bcast_S_S4x2048 main_cst_79
  fn_part15 (F := F) main_v4 main_v264 main_v272 main_v277 main_v278

def fn_part13 {F : FTy → Type} [FloatOps F] (main_v4 : FVec F S4x2048x2048 .f32) (main_v221 : FVec F S4x2048 .f32) (main_v222 : FVec F S4x2048 .f32) (main_v223 : FVec F S4x2048 .f32) (main_v224 : FVec F S4x2048 .f32) (main_v225 : FVec F S4x2048 .f32) (main_v228 : FVec F S4x2048 .f32) (main_v233 : FVec F S4x2048 .f32) (main_v237 : FVec F S4x2048 .f32) (main_v239 : FVec F S4x2048 .f32) (main_v241 : IVec S4x2048 1) (main_v242 : FVec F S4x2048 .f32) : IVec S4x2048x1024 1 :=
  let main_v243 : IVec S4x2048 1 := cmpf .ogt main_v228 main_v242
  let main_v244 : IVec S4x2048 1 := andi main_v241 main_v243
  let main_cst_68 : FVec F S_ .f32 := constant S_ .f32 0x3F000000#32
  let main_v245 : FVec F S4x2048 .f32 := broadcastInDim S4x2048 ![] bcast_S_S4x2048 main_cst_68
  let main_v246 : FVec F S4x2048 .f32 := mulf main_v224 main_v245
  let main_v247 : FVec F S4x2048 .f32 := select main_v244 main_v246 main_v224
  let main_v248 : IVec S4x2048 1 := noti main_v241
  let main_cst_69 : FVec F S_ .f32 := constant S_ .f32 0x00000000#32
  let main_v249 : FVec F S4x2048 .f32 := broadcastInDim S4x2048 ![] bcast_S_S4x2048 main_cst_69
  let main_v250 : IVec S4x2048 1 := cmpf .olt main_v228 main_v249
  let main_v251 : IVec S4x2048 1 := andi main_v248 main_v250
  let main_cst_70 : FVec F S_ .f32 := constant S_ .f32 0x3F000000#32
  let main_v252 : FVec F S4x2048 .f32 := broadcastInDim S4x2048 ![] bcast_S_S4x2048 main_cst_70
  let main_v253 : FVec F S4x2048 .f32 := mulf main_v223 main_v252
  let main_v254 : FVec F S4x2048 .f32 := select main_v251 main_v253 main_v223
  let main_v255 : FVec F S4x2048 .f32 := select main_v241 main_v233 main_v221
  let main_v256 : FVec F S4x2048 .f32 := select main_v241 main_v222 main_v233
  let main_v257 : FVec F S4x2048 .f32 := select main_v241 main_v239 main_v254
  let main_v258 : FVec F S4x2048 .f32 := select main_v241 main_v247 main_v239
  let main_v259 : FVec F S4x2048 .f32 := select main_v241 main_v225 main_v237
  let main_cst_71 : FVec F S_ .f32 := constant S_ .f32 0x3F800000#32
  let main_v260 : FVec F S4x2048 .f32 := broadcastInDim S4x2048 ![] bcast_S_S4x2048 main_cst_71
  let main_cst_72 : FVec F S_ .f32 := constant S_ .f32 0xBF800000#32
  let main_v261 : FVec F S4x2048 .f32 := broadcastInDim S4x2048 ![] bcast_S_S4x2048 main_cst_72
  fn_part14 (F := F) main_v4 main_v241 main_v255 main_v256 main_v259 main_v260 main_v261

def fn_part12 {F : FTy → Type} [FloatOps F] (main_v4 : FVec F S4x2048x2048 .f32) (main_v191 : FVec F S4x2048 .f32) (main_v203 : FVec F S4x2048 .f32) (main_v207 : IVec S4x2048 1) (main_v221 : FVec F S4x2048 .f32) (main_v222 : FVec F S4x2048 .f32) (main_v223 : FVec F S4x2048 .f32) (main_v224 : FVec F S4x2048 .f32) : IVec S4x2048x1024 1 :=
  let main_v225 : FVec F S4x2048 .f32 := select main_v207 main_v191 main_v203
  let main_cst_62 : FVec F S_ .f32 := constant S_ .f32 0x3F800000#32
  let main_v226 : FVec F S4x2048 .f32 := broadcastInDim S4x2048 ![] bcast_S_S4x2048 main_cst_62
  let main_cst_63 : FVec F S_ .f32 := constant S_ .f32 0xBF800000#32
  let main_v227 : FVec F S4x2048 .f32 := broadcastInDim S4x2048 ![] bcast_S_S4x2048 main_cst_63
  let main_v228 : FVec F S4x2048 .f32 := select main_v207 main_v226 main_v227
  let main_v229 : FVec F S4x2048 .f32 := mulf main_v221 main_v224
  let main_v230 : FVec F S4x2048 .f32 := mulf main_v222 main_v223
  let main_v231 : FVec F S4x2048 .f32 := subf main_v229 main_v230
  let main_v232 : FVec F S4x2048 .f32 := subf main_v224 main_v223
  let main_v233 : FVec F S4x2048 .f32 := Host.divf main_v231 main_v232
  let main_v234 : FVec F S4x2048x2048 .f32 := broadcastInDim S4x2048x2048 ![0, 1] bcast_S4x2048_S4x2048x2048_0_1 main_v233
  let main_v235 : IVec S4x2048x2048 1 := cmpf .oge main_v4 main_v234
  let main_v236 : FVec F S4x2048x2048 .f32 := uitofp .f32 main_v235
  let main_cst_64 : FVec F S_ .f32 := constant S_ .f32 0x00000000#32
  let main_v237 : FVec F S4x2048 .f32 := (fun x v => Host.reduceAdd x v reducesTo_S4x2048x2048_S4x2048_d2 h_S_) main_v236 main_cst_64
  let main_cst_65 : FVec F S_ .f32 := constant S_ .f32 0x434C0000#32
  let main_v238 : FVec F S4x2048 .f32 := broadcastInDim S4x2048 ![] bcast_S_S4x2048 main_cst_65
  let main_v239 : FVec F S4x2048 .f32 := subf main_v237 main_v238
  let main_cst_66 : FVec F S_ .f32 := constant S_ .f32 0x00000000#32
  let main_v240 : FVec F S4x2048 .f32 := broadcastInDim S4x2048 ![] bcast_S_S4x2048 main_cst_66
  let main_v241 : IVec S4x2048 1 := cmpf .oge main_v239 main_v240
  let main_cst_67 : FVec F S_ .f32 := constant S_ .f32 0x00000000#32
  let main_v242 : FVec F S4x2048 .f32 := broadcastInDim S4x2048 ![] bcast_S_S4x2048 main_cst_67
  fn_part13 (F := F) main_v4 main_v221 main_v222 main_v223 main_v224 main_v225 main_v228 main_v233 main_v237 main_v239 main_v241 main_v242

def fn_part11 {F : FTy → Type} [FloatOps F] (main_v4 : FVec F S4x2048x2048 .f32) (main_v187 : FVec F S4x2048 .f32) (main_v188 : FVec F S4x2048 .f32) (main_v189 : FVec F S4x2048 .f32) (main_v190 : FVec F S4x2048 .f32) (main_v191 : FVec F S4x2048 .f32) (main_v194 : FVec F S4x2048 .f32) (main_v199 : FVec F S4x2048 .f32) (main_v203 : FVec F S4x2048 .f32) (main_v205 : FVec F S4x2048 .f32) : IVec S4x2048x1024 1 :=
  let main_cst_57 : FVec F S_ .f32 := constant S_ .f32 0x00000000#32
  let main_v206 : FVec F S4x2048 .f32 := broadcastInDim S4x2048 ![] bcast_S_S4x2048 main_cst_57
  let main_v207 : IVec S4x2048 1 := cmpf .oge main_v205 main_v206
  let main_cst_58 : FVec F S_ .f32 := constant S_ .f32 0x00000000#32
  let main_v208 : FVec F S4x2048 .f32 := broadcastInDim S4x2048 ![] bcast_S_S4x2048 main_cst_58
  let main_v209 : IVec S4x2048 1 := cmpf .ogt main_v194 main_v208
  let main_v210 : IVec S4x2048 1 := andi main_v207 main_v209
  let main_cst_59 : FVec F S_ .f32 := constant S_ .f32 0x3F000000#32
  let main_v211 : FVec F S4x2048 .f32 := broadcastInDim S4x2048 ![] bcast_S_S4x2048 main_cst_59
  let main_v212 : FVec F S4x2048 .f32 := mulf main_v190 main_v211
  let main_v213 : FVec F S4x2048 .f32 := select main_v210 main_v212 main_v190
  let main_v214 : IVec S4x2048 1 := noti main_v207
  let main_cst_60 : FVec F S_ .f32 := constant S_ .f32 0x00000000#32
  let main_v215 : FVec F S4x2048 .f32 := broadcastInDim S4x2048 ![] bcast_S_S4x2048 main_cst_60
  let main_v216 : IVec S4x2048 1 := cmpf .olt main_v194 main_v215
  let main_v217 : IVec S4x2048 1 := andi main_v214 main_v216
  let main_cst_61 : FVec F S_ .f32 := constant S_ .f32 0x3F000000#32
  let main_v218 : FVec F S4x2048 .f32 := broadcastInDim S4x2048 ![] bcast_S_S4x2048 main_cst_61
  let main_v219 : FVec F S4x2048 .f32 := mulf main_v189 main_v218
  let main_v220 : FVec F S4x2048 .f32 := select main_v217 main_v219 main_v189
  let main_v221 : FVec F S4x2048 .f32 := select main_v207 main_v199 main_v187
  let main_v222 : FVec F S4x2048 .f32 := select main_v207 main_v188 main_v199
  let main_v223 : FVec F S4x2048 .f32 := select main_v207 main_v205 main_v220
  let main_v224 : FVec F S4x2048 .f32 := select main_v207 main_v213 main_v205
  fn_part12 (F := F) main_v4 main_v191 main_v203 main_v207 main_v221 main_v222 main_v223 main_v224

def fn_part10 {F : FTy → Type} [FloatOps F] (main_v4 : FVec F S4x2048x2048 .f32) (main_v153 : FVec F S4x2048 .f32) (main_v154 : FVec F S4x2048 .f32) (main_v155 : FVec F S4x2048 .f32) (main_v157 : FVec F S4x2048 .f32) (main_v165 : FVec F S4x2048 .f32) (main_v169 : FVec F S4x2048 .f32) (main_v171 : FVec F S4x2048 .f32) (main_v173 : IVec S4x2048 1) (main_v179 : FVec F S4x2048 .f32) (main_v183 : IVec S4x2048 1) (main_v185 : FVec F S4x2048 .f32) : IVec S4x2048x1024 1 :=
  let main_v186 : FVec F S4x2048 .f32 := select main_v183 main_v185 main_v155
  let main_v187 : FVec F S4x2048 .f32 := select main_v173 main_v165 main_v153
  let main_v188 : FVec F S4x2048 .f32 := select main_v173 main_v154 main_v165
  let main_v189 : FVec F S4x2048 .f32 := select main_v173 main_v171 main_v186
  let main_v190 : FVec F S4x2048 .f32 := select main_v173 main_v179 main_v171
  let main_v191 : FVec F S4x2048 .f32 := select main_v173 main_v157 main_v169
  let main_cst_53 : FVec F S_ .f32 := constant S_ .f32 0x3F800000#32
  let main_v192 : FVec F S4x2048 .f32 := broadcastInDim S4x2048 ![] bcast_S_S4x2048 main_cst_53
  let main_cst_54 : FVec F S_ .f32 := constant S_ .f32 0xBF800000#32
  let main_v193 : FVec F S4x2048 .f32 := broadcastInDim S4x2048 ![] bcast_S_S4x2048 main_cst_54
  let main_v194 : FVec F S4x2048 .f32 := select main_v173 main_v192 main_v193
  let main_v195 : FVec F S4x2048 .f32 := mulf main_v187 main_v190
  let main_v196 : FVec F S4x2048 .f32 := mulf main_v188 main_v189
  let main_v197 : FVec F S4x2048 .f32 := subf main_v195 main_v196
  let main_v198 : FVec F S4x2048 .f32 := subf main_v190 main_v189
  let main_v199 : FVec F S4x2048 .f32 := Host.divf main_v197 main_v198
  let main_v200 : FVec F S4x2048x2048 .f32 := broadcastInDim S4x2048x2048 ![0, 1] bcast_S4x2048_S4x2048x2048_0_1 main_v199
  let main_v201 : IVec S4x2048x2048 1 := cmpf .oge main_v4 main_v200
  let main_v202 : FVec F S4x2048x2048 .f32 := uitofp .f32 main_v201
  let main_cst_55 : FVec F S_ .f32 := constant S_ .f32 0x00000000#32
  let main_v203 : FVec F S4x2048 .f32 := (fun x v => Host.reduceAdd x v reducesTo_S4x2048x2048_S4x2048_d2 h_S_) main_v202 main_cst_55
  let main_cst_56 : FVec F S_ .f32 := constant S_ .f32 0x434C0000#32
  let main_v204 : FVec F S4x2048 .f32 := broadcastInDim S4x2048 ![] bcast_S_S4x2048 main_cst_56
  let main_v205 : FVec F S4x2048 .f32 := subf main_v203 main_v204
  fn_part11 (F := F) main_v4 main_v187 main_v188 main_v189 main_v190 main_v191 main_v194 main_v199 main_v203 main_v205

def fn_part9 {F : FTy → Type} [FloatOps F] (main_v4 : FVec F S4x2048x2048 .f32) (main_v153 : FVec F S4x2048 .f32) (main_v154 : FVec F S4x2048 .f32) (main_v155 : FVec F S4x2048 .f32) (main_v156 : FVec F S4x2048 .f32) (main_v157 : FVec F S4x2048 .f32) (main_v160 : FVec F S4x2048 .f32) (main_v165 : FVec F S4x2048 .f32) (main_v168 : FVec F S4x2048x2048 .f32) : IVec S4x2048x1024 1 :=
  let main_cst_46 : FVec F S_ .f32 := constant S_ .f32 0x00000000#32
  let main_v169 : FVec F S4x2048 .f32 := (fun x v => Host.reduceAdd x v reducesTo_S4x2048x2048_S4x2048_d2 h_S_) main_v168 main_cst_46
  let main_cst_47 : FVec F S_ .f32 := constant S_ .f32 0x434C0000#32
  let main_v170 : FVec F S4x2048 .f32 := broadcastInDim S4x2048 ![] bcast_S_S4x2048 main_cst_47
  let main_v171 : FVec F S4x2048 .f32 := subf main_v169 main_v170
  let main_cst_48 : FVec F S_ .f32 := constant S_ .f32 0x00000000#32
  let main_v172 : FVec F S4x2048 .f32 := broadcastInDim S4x2048 ![] bcast_S_S4x2048 main_cst_48
  let main_v173 : IVec S4x2048 1 := cmpf .oge main_v171 main_v172
  let main_cst_49 : FVec F S_ .f32 := constant S_ .f32 0x00000000#32
  let main_v174 : FVec F S4x2048 .f32 := broadcastInDim S4x2048 ![] bcast_S_S4x2048 main_cst_49
  let main_v175 : IVec S4x2048 1 := cmpf .ogt main_v160 main_v174
  let main_v176 : IVec S4x2048 1 := andi main_v173 main_v175
  let main_cst_50 : FVec F S_ .f32 := constant S_ .f32 0x3F000000#32
  let main_v177 : FVec F S4x2048 .f32 := broadcastInDim S4x2048 ![] bcast_S_S4x2048 main_cst_50
  let main_v178 : FVec F S4x2048 .f32 := mulf main_v156 main_v177
  let main_v179 : FVec F S4x2048 .f32 := select main_v176 main_v178 main_v156
  let main_v180 : IVec S4x2048 1 := noti main_v173
  let main_cst_51 : FVec F S_ .f32 := constant S_ .f32 0x00000000#32
  let main_v181 : FVec F S4x2048 .f32 := broadcastInDim S4x2048 ![] bcast_S_S4x2048 main_cst_51
  let main_v182 : IVec S4x2048 1 := cmpf .olt main_v160 main_v181
  let main_v183 : IVec S4x2048 1 := andi main_v180 main_v182
  let main_cst_52 : FVec F S_ .f32 := constant S_ .f32 0x3F000000#32
  let main_v184 : FVec F S4x2048 .f32 := broadcastInDim S4x2048 ![] bcast_S_S4x2048 main_cst_52
  let main_v185 : FVec F S4x2048 .f32 := mulf main_v155 main_v184
  fn_part10 (F := F) main_v4 main_v153 main_v154 main_v155 main_v157 main_v165 main_v169 main_v171 main_v173 main_v179 main_v183 main_v185

def fn_part8 {F : FTy → Type} [FloatOps F] (main_v4 : FVec F S4x2048x2048 .f32) (main_v119 : FVec F S4x2048 .f32) (main_v120 : FVec F S4x2048 .f32) (main_v121 : FVec F S4x2048 .f32) (main_v123 : FVec F S4x2048 .f32) (main_v126 : FVec F S4x2048 .f32) (main_v131 : FVec F S4x2048 .f32) (main_v135 : FVec F S4x2048 .f32) (main_v137 : FVec F S4x2048 .f32) (main_v139 : IVec S4x2048 1) (main_v145 : FVec F S4x2048 .f32) (main_v146 : IVec S4x2048 1) (main_v147 : FVec F S4x2048 .f32) : IVec S4x2048x1024 1 :=
  let main_v148 : IVec S4x2048 1 := cmpf .olt main_v126 main_v147
  let main_v149 : IVec S4x2048 1 := andi main_v146 main_v148
  let main_cst_43 : FVec F S_ .f32 := constant S_ .f32 0x3F000000#32
  let main_v150 : FVec F S4x2048 .f32 := broadcastInDim S4x2048 ![] bcast_S_S4x2048 main_cst_43
  let main_v151 : FVec F S4x2048 .f32 := mulf main_v121 main_v150
  let main_v152 : FVec F S4x2048 .f32 := select main_v149 main_v151 main_v121
  let main_v153 : FVec F S4x2048 .f32 := select main_v139 main_v131 main_v119
  let main_v154 : FVec F S4x2048 .f32 := select main_v139 main_v120 main_v131
  let main_v155 : FVec F S4x2048 .f32 := select main_v139 main_v137 main_v152
  let main_v156 : FVec F S4x2048 .f32 := select main_v139 main_v145 main_v137
  let main_v157 : FVec F S4x2048 .f32 := select main_v139 main_v123 main_v135
  let main_cst_44 : FVec F S_ .f32 := constant S_ .f32 0x3F800000#32
  let main_v158 : FVec F S4x2048 .f32 := broadcastInDim S4x2048 ![] bcast_S_S4x2048 main_cst_44
  let main_cst_45 : FVec F S_ .f32 := constant S_ .f32 0xBF800000#32
  let main_v159 : FVec F S4x2048 .f32 := broadcastInDim S4x2048 ![] bcast_S_S4x2048 main_cst_45
  let main_v160 : FVec F S4x2048 .f32 := select main_v139 main_v158 main_v159
  let main_v161 : FVec F S4x2048 .f32 := mulf main_v153 main_v156
  let main_v162 : FVec F S4x2048 .f32 := mulf main_v154 main_v155
  let main_v163 : FVec F S4x2048 .f32 := subf main_v161 main_v162
  let main_v164 : FVec F S4x2048 .f32 := subf main_v156 main_v155
  let main_v165 : FVec F S4x2048 .f32 := Host.divf main_v163 main_v164
  let main_v166 : FVec F S4x2048x2048 .f32 := broadcastInDim S4x2048x2048 ![0, 1] bcast_S4x2048_S4x2048x2048_0_1 main_v165
  let main_v167 : IVec S4x2048x2048 1 := cmpf .oge main_v4 main_v166
  let main_v168 : FVec F S4x2048x2048 .f32 := uitofp .f32 main_v167
  fn_part9 (F := F) main_v4 main_v153 main_v154 main_v155 main_v156 main_v157 main_v160 main_v165 main_v168

def fn_part7 {F : FTy → Type} [FloatOps F] (main_v4 : FVec F S4x2048x2048 .f32) (main_v119 : FVec F S4x2048 .f32) (main_v120 : FVec F S4x2048 .f32) (main_v121 : FVec F S4x2048 .f32) (main_v122 : FVec F S4x2048 .f32) (main_v123 : FVec F S4x2048 .f32) (main_v126 : FVec F S4x2048 .f32) (main_v129 : FVec F S4x2048 .f32) : IVec S4x2048x1024 1 :=
  let main_v130 : FVec F S4x2048 .f32 := subf main_v122 main_v121
  let main_v131 : FVec F S4x2048 .f32 := Host.divf main_v129 main_v130
  let main_v132 : FVec F S4x2048x2048 .f32 := broadcastInDim S4x2048x2048 ![0, 1] bcast_S4x2048_S4x2048x2048_0_1 main_v131
  let main_v133 : IVec S4x2048x2048 1 := cmpf .oge main_v4 main_v132
  let main_v134 : FVec F S4x2048x2048 .f32 := uitofp .f32 main_v133
  let main_cst_37 : FVec F S_ .f32 := constant S_ .f32 0x00000000#32
  let main_v135 : FVec F S4x2048 .f32 := (fun x v => Host.reduceAdd x v reducesTo_S4x2048x2048_S4x2048_d2 h_S_) main_v134 main_cst_37
  let main_cst_38 : FVec F S_ .f32 := constant S_ .f32 0x434C0000#32
  let main_v136 : FVec F S4x2048 .f32 := broadcastInDim S4x2048 ![] bcast_S_S4x2048 main_cst_38
  let main_v137 : FVec F S4x2048 .f32 := subf main_v135 main_v136
  let main_cst_39 : FVec F S_ .f32 := constant S_ .f32 0x00000000#32
  let main_v138 : FVec F S4x2048 .f32 := broadcastInDim S4x2048 ![] bcast_S_S4x2048 main_cst_39
  let main_v139 : IVec S4x2048 1 := cmpf .oge main_v137 main_v138
  let main_cst_40 : FVec F S_ .f32 := constant S_ .f32 0x00000000#32
  let main_v140 : FVec F S4x2048 .f32 := broadcastInDim S4x2048 ![] bcast_S_S4x2048 main_cst_40
  let main_v141 : IVec S4x2048 1 := cmpf .ogt main_v126 main_v140
  let main_v142 : IVec S4x2048 1 := andi main_v139 main_v141
  let main_cst_41 : FVec F S_ .f32 := constant S_ .f32 0x3F000000#32
  let main_v143 : FVec F S4x2048 .f32 := broadcastInDim S4x2048 ![] bcast_S_S4x2048 main_cst_41
  let main_v144 : FVec F S4x2048 .f32 := mulf main_v122 main_v143
  let main_v145 : FVec F S4x2048 .f32 := select main_v142 main_v144 main_v122
  let main_v146 : IVec S4x2048 1 := noti main_v139
  let main_cst_42 : FVec F S_ .f32 := constant S_ .f32 0x00000000#32
  let main_v147 : FVec F S4x2048 .f32 := broadcastInDim S4x2048 ![] bcast_S_S4x2048 main_cst_42
  fn_part8 (F := F) main_v4 main_v119 main_v120 main_v121 main_v123 main_v126 main_v131 main_v135 main_v137 main_v139 main_v145 main_v146 main_v147

def fn_part6 {F : FTy → Type} [FloatOps F] (main_v4 : FVec F S4x2048x2048 .f32) (main_v85 : FVec F S4x2048 .f32) (main_v86 : FVec F S4x2048 .f32) (main_v87 : FVec F S4x2048 .f32) (main_v88 : FVec F S4x2048 .f32) (main_v89 : FVec F S4x2048 .f32) (main_v92 : FVec F S4x2048 .f32) (main_v97 : FVec F S4x2048 .f32) (main_v101 : FVec F S4x2048 .f32) (main_v103 : FVec F S4x2048 .f32) (main_v105 : IVec S4x2048 1) (main_v108 : IVec S4x2048 1) (main_v109 : FVec F S4x2048 .f32) : IVec S4x2048x1024 1 :=
  let main_v110 : FVec F S4x2048 .f32 := mulf main_v88 main_v109
  let main_v111 : FVec F S4x2048 .f32 := select main_v108 main_v110 main_v88
  let main_v112 : IVec S4x2048 1 := noti main_v105
  let main_cst_33 : FVec F S_ .f32 := constant S_ .f32 0x00000000#32
  let main_v113 : FVec F S4x2048 .f32 := broadcastInDim S4x2048 ![] bcast_S_S4x2048 main_cst_33
  let main_v114 : IVec S4x2048 1 := cmpf .olt main_v92 main_v113
  let main_v115 : IVec S4x2048 1 := andi main_v112 main_v114
  let main_cst_34 : FVec F S_ .f32 := constant S_ .f32 0x3F000000#32
  let main_v116 : FVec F S4x2048 .f32 := broadcastInDim S4x2048 ![] bcast_S_S4x2048 main_cst_34
  let main_v117 : FVec F S4x2048 .f32 := mulf main_v87 main_v116
  let main_v118 : FVec F S4x2048 .f32 := select main_v115 main_v117 main_v87
  let main_v119 : FVec F S4x2048 .f32 := select main_v105 main_v97 main_v85
  let main_v120 : FVec F S4x2048 .f32 := select main_v105 main_v86 main_v97
  let main_v121 : FVec F S4x2048 .f32 := select main_v105 main_v103 main_v118
  let main_v122 : FVec F S4x2048 .f32 := select main_v105 main_v111 main_v103
  let main_v123 : FVec F S4x2048 .f32 := select main_v105 main_v89 main_v101
  let main_cst_35 : FVec F S_ .f32 := constant S_ .f32 0x3F800000#32
  let main_v124 : FVec F S4x2048 .f32 := broadcastInDim S4x2048 ![] bcast_S_S4x2048 main_cst_35
  let main_cst_36 : FVec F S_ .f32 := constant S_ .f32 0xBF800000#32
  let main_v125 : FVec F S4x2048 .f32 := broadcastInDim S4x2048 ![] bcast_S_S4x2048 main_cst_36
  let main_v126 : FVec F S4x2048 .f32 := select main_v105 main_v124 main_v125
  let main_v127 : FVec F S4x2048 .f32 := mulf main_v119 main_v122
  let main_v128 : FVec F S4x2048 .f32 := mulf main_v120 main_v121
  let main_v129 : FVec F S4x2048 .f32 := subf main_v127 main_v128
  fn_part7 (F := F) main_v4 main_v119 main_v120 main_v121 main_v122 main_v123 main_v126 main_v129

def fn_part5 {F : FTy → Type} [FloatOps F] (main_v4 : FVec F S4x2048x2048 .f32) (main_v71 : IVec S4x2048 1) (main_v85 : FVec F S4x2048 .f32) (main_v86 : FVec F S4x2048 .f32) (main_v87 : FVec F S4x2048 .f32) (main_v88 : FVec F S4x2048 .f32) (main_v89 : FVec F S4x2048 .f32) (main_v90 : FVec F S4x2048 .f32) (main_cst_27 : FVec F S_ .f32) : IVec S4x2048x1024 1 :=
  let main_v91 : FVec F S4x2048 .f32 := broadcastInDim S4x2048 ![] bcast_S_S4x2048 main_cst_27
  let main_v92 : FVec F S4x2048 .f32 := select main_v71 main_v90 main_v91
  let main_v93 : FVec F S4x2048 .f32 := mulf main_v85 main_v88
  let main_v94 : FVec F S4x2048 .f32 := mulf main_v86 main_v87
  let main_v95 : FVec F S4x2048 .f32 := subf main_v93 main_v94
  let main_v96 : FVec F S4x2048 .f32 := subf main_v88 main_v87
  let main_v97 : FVec F S4x2048 .f32 := Host.divf main_v95 main_v96
  let main_v98 : FVec F S4x2048x2048 .f32 := broadcastInDim S4x2048x2048 ![0, 1] bcast_S4x2048_S4x2048x2048_0_1 main_v97
  let main_v99 : IVec S4x2048x2048 1 := cmpf .oge main_v4 main_v98
  let main_v100 : FVec F S4x2048x2048 .f32 := uitofp .f32 main_v99
  let main_cst_28 : FVec F S_ .f32 := constant S_ .f32 0x00000000#32
  let main_v101 : FVec F S4x2048 .f32 := (fun x v => Host.reduceAdd x v reducesTo_S4x2048x2048_S4x2048_d2 h_S_) main_v100 main_cst_28
  let main_cst_29 : FVec F S_ .f32 := constant S_ .f32 0x434C0000#32
  let main_v102 : FVec F S4x2048 .f32 := broadcastInDim S4x2048 ![] bcast_S_S4x2048 main_cst_29
  let main_v103 : FVec F S4x2048 .f32 := subf main_v101 main_v102
  let main_cst_30 : FVec F S_ .f32 := constant S_ .f32 0x00000000#32
  let main_v104 : FVec F S4x2048 .f32 := broadcastInDim S4x2048 ![] bcast_S_S4x2048 main_cst_30
  let main_v105 : IVec S4x2048 1 := cmpf .oge main_v103 main_v104
  let main_cst_31 : FVec F S_ .f32 := constant S_ .f32 0x00000000#32
  let main_v106 : FVec F S4x2048 .f32 := broadcastInDim S4x2048 ![] bcast_S_S4x2048 main_cst_31
  let main_v107 : IVec S4x2048 1 := cmpf .ogt main_v92 main_v106
  let main_v108 : IVec S4x2048 1 := andi main_v105 main_v107
  let main_cst_32 : FVec F S_ .f32 := constant S_ .f32 0x3F000000#32
  let main_v109 : FVec F S4x2048 .f32 := broadcastInDim S4x2048 ![] bcast_S_S4x2048 main_cst_32
  fn_part6 (F := F) main_v4 main_v85 main_v86 main_v87 main_v88 main_v89 main_v92 main_v97 main_v101 main_v103 main_v105 main_v108 main_v109

def fn_part4 {F : FTy → Type} [FloatOps F] (main_v4 : FVec F S4x2048x2048 .f32) (main_v51 : FVec F S4x2048 .f32) (main_v52 : FVec F S4x2048 .f32) (main_v53 : FVec F S4x2048 .f32) (main_v54 : FVec F S4x2048 .f32) (main_v55 : FVec F S4x2048 .f32) (main_v58 : FVec F S4x2048 .f32) (main_v63 : FVec F S4x2048 .f32) (main_v67 : FVec F S4x2048 .f32) (main_v69 : FVec F S4x2048 .f32) (main_v71 : IVec S4x2048 1) (main_cst_22 : FVec F S_ .f32) : IVec S4x2048x1024 1 :=
  let main_v72 : FVec F S4x2048 .f32 := broadcastInDim S4x2048 ![] bcast_S_S4x2048 main_cst_22
  let main_v73 : IVec S4x2048 1 := cmpf .ogt main_v58 main_v72
  let main_v74 : IVec S4x2048 1 := andi main_v71 main_v73
  let main_cst_23 : FVec F S_ .f32 := constant S_ .f32 0x3F000000#32
  let main_v75 : FVec F S4x2048 .f32 := broadcastInDim S4x2048 ![] bcast_S_S4x2048 main_cst_23
  let main_v76 : FVec F S4x2048 .f32 := mulf main_v54 main_v75
  let main_v77 : FVec F S4x2048 .f32 := select main_v74 main_v76 main_v54
  let main_v78 : IVec S4x2048 1 := noti main_v71
  let main_cst_24 : FVec F S_ .f32 := constant S_ .f32 0x00000000#32
  let main_v79 : FVec F S4x2048 .f32 := broadcastInDim S4x2048 ![] bcast_S_S4x2048 main_cst_24
  let main_v80 : IVec S4x2048 1 := cmpf .olt main_v58 main_v79
  let main_v81 : IVec S4x2048 1 := andi main_v78 main_v80
  let main_cst_25 : FVec F S_ .f32 := constant S_ .f32 0x3F000000#32
  let main_v82 : FVec F S4x2048 .f32 := broadcastInDim S4x2048 ![] bcast_S_S4x2048 main_cst_25
  let main_v83 : FVec F S4x2048 .f32 := mulf main_v53 main_v82
  let main_v84 : FVec F S4x2048 .f32 := select main_v81 main_v83 main_v53
  let main_v85 : FVec F S4x2048 .f32 := select main_v71 main_v63 main_v51
  let main_v86 : FVec F S4x2048 .f32 := select main_v71 main_v52 main_v63
  let main_v87 : FVec F S4x2048 .f32 := select main_v71 main_v69 main_v84
  let main_v88 : FVec F S4x2048 .f32 := select main_v71 main_v77 main_v69
  let main_v89 : FVec F S4x2048 .f32 := select main_v71 main_v55 main_v67
  let main_cst_26 : FVec F S_ .f32 := constant S_ .f32 0x3F800000#32
  let main_v90 : FVec F S4x2048 .f32 := broadcastInDim S4x2048 ![] bcast_S_S4x2048 main_cst_26
  let main_cst_27 : FVec F S_ .f32 := constant S_ .f32 0xBF800000#32
  fn_part5 (F := F) main_v4 main_v71 main_v85 main_v86 main_v87 main_v88 main_v89 main_v90 main_cst_27

def fn_part3 {F : FTy → Type} [FloatOps F] (main_v4 : FVec F S4x2048x2048 .f32) (main_v23 : FVec F S4x2048 .f32) (main_v33 : FVec F S4x2048 .f32) (main_v35 : FVec F S4x2048 .f32) (main_v37 : IVec S4x2048 1) (main_v43 : FVec F S4x2048 .f32) (main_v51 : FVec F S4x2048 .f32) (main_v52 : FVec F S4x2048 .f32) (main_v53 : FVec F S4x2048 .f32) : IVec S4x2048x1024 1 :=
  let main_v54 : FVec F S4x2048 .f32 := select main_v37 main_v43 main_v35
  let main_v55 : FVec F S4x2048 .f32 := select main_v37 main_v23 main_v33
  let main_cst_17 : FVec F S_ .f32 := constant S_ .f32 0x3F800000#32
  let main_v56 : FVec F S4x2048 .f32 := broadcastInDim S4x2048 ![] bcast_S_S4x2048 main_cst_17
  let main_cst_18 : FVec F S_ .f32 := constant S_ .f32 0xBF800000#32
  let main_v57 : FVec F S4x2048 .f32 := broadcastInDim S4x2048 ![] bcast_S_S4x2048 main_cst_18
  let main_v58 : FVec F S4x2048 .f32 := select main_v37 main_v56 main_v57
  let main_v59 : FVec F S4x2048 .f32 := mulf main_v51 main_v54
  let main_v60 : FVec F S4x2048 .f32 := mulf main_v52 main_v53
  let main_v61 : FVec F S4x2048 .f32 := subf main_v59 main_v60
  let main_v62 : FVec F S4x2048 .f32 := subf main_v54 main_v53
  let main_v63 : FVec F S4x2048 .f32 := Host.divf main_v61 main_v62
  let main_v64 : FVec F S4x2048x2048 .f32 := broadcastInDim S4x2048x2048 ![0, 1] bcast_S4x2048_S4x2048x2048_0_1 main_v63
  let main_v65 : IVec S4x2048x2048 1 := cmpf .oge main_v4 main_v64
  let main_v66 : FVec F S4x2048x2048 .f32 := uitofp .f32 main_v65
  let main_cst_19 : FVec F S_ .f32 := constant S_ .f32 0x00000000#32
  let main_v67 : FVec F S4x2048 .f32 := (fun x v => Host.reduceAdd x v reducesTo_S4x2048x2048_S4x2048_d2 h_S_) main_v66 main_cst_19
  let main_cst_20 : FVec F S_ .f32 := constant S_ .f32 0x434C0000#32
  let main_v68 : FVec F S4x2048 .f32 := broadcastInDim S4x2048 ![] bcast_S_S4x2048 main_cst_20
  let main_v69 : FVec F S4x2048 .f32 := subf main_v67 main_v68
  let main_cst_21 : FVec F S_ .f32 := constant S_ .f32 0x00000000#32
  let main_v70 : FVec F S4x2048 .f32 := broadcastInDim S4x2048 ![] bcast_S_S4x2048 main_cst_21
  let main_v71 : IVec S4x2048 1 := cmpf .oge main_v69 main_v70
  let main_cst_22 : FVec F S_ .f32 := constant S_ .f32 0x00000000#32
  fn_part4 (F := F) main_v4 main_v51 main_v52 main_v53 main_v54 main_v55 main_v58 main_v63 main_v67 main_v69 main_v71 main_cst_22

def fn_part2 {F : FTy → Type} [FloatOps F] (main_v4 : FVec F S4x2048x2048 .f32) (main_v17 : FVec F S4x2048 .f32) (main_v20 : FVec F S4x2048 .f32) (main_v21 : FVec F S4x2048 .f32) (main_v22 : FVec F S4x2048 .f32) (main_v23 : FVec F S4x2048 .f32) (main_v24 : FVec F S4x2048 .f32) (main_v29 : FVec F S4x2048 .f32) (main_v33 : FVec F S4x2048 .f32) (main_v34 : FVec F S4x2048 .f32) : IVec S4x2048x1024 1 :=
  let main_v35 : FVec F S4x2048 .f32 := subf main_v33 main_v34
  let main_cst_12 : FVec F S_ .f32 := constant S_ .f32 0x00000000#32
  let main_v36 : FVec F S4x2048 .f32 := broadcastInDim S4x2048 ![] bcast_S_S4x2048 main_cst_12
  let main_v37 : IVec S4x2048 1 := cmpf .oge main_v35 main_v36
  let main_cst_13 : FVec F S_ .f32 := constant S_ .f32 0x00000000#32
  let main_v38 : FVec F S4x2048 .f32 := broadcastInDim S4x2048 ![] bcast_S_S4x2048 main_cst_13
  let main_v39 : IVec S4x2048 1 := cmpf .ogt main_v24 main_v38
  let main_v40 : IVec S4x2048 1 := andi main_v37 main_v39
  let main_cst_14 : FVec F S_ .f32 := constant S_ .f32 0x3F000000#32
  let main_v41 : FVec F S4x2048 .f32 := broadcastInDim S4x2048 ![] bcast_S_S4x2048 main_cst_14
  let main_v42 : FVec F S4x2048 .f32 := mulf main_v22 main_v41
  let main_v43 : FVec F S4x2048 .f32 := select main_v40 main_v42 main_v22
  let main_v44 : IVec S4x2048 1 := noti main_v37
  let main_cst_15 : FVec F S_ .f32 := constant S_ .f32 0x00000000#32
  let main_v45 : FVec F S4x2048 .f32 := broadcastInDim S4x2048 ![] bcast_S_S4x2048 main_cst_15
  let main_v46 : IVec S4x2048 1 := cmpf .olt main_v24 main_v45
  let main_v47 : IVec S4x2048 1 := andi main_v44 main_v46
  let main_cst_16 : FVec F S_ .f32 := constant S_ .f32 0x3F000000#32
  let main_v48 : FVec F S4x2048 .f32 := broadcastInDim S4x2048 ![] bcast_S_S4x2048 main_cst_16
  let main_v49 : FVec F S4x2048 .f32 := mulf main_v21 main_v48
  let main_v50 : FVec F S4x2048 .f32 := select main_v47 main_v49 main_v21
  let main_v51 : FVec F S4x2048 .f32 := select main_v37 main_v29 main_v17
  let main_v52 : FVec F S4x2048 .f32 := select main_v37 main_v20 main_v29
  let main_v53 : FVec F S4x2048 .f32 := select main_v37 main_v35 main_v50
  fn_part3 (F := F) main_v4 main_v23 main_v33 main_v35 main_v37 main_v43 main_v51 main_v52 main_v53

def fn_part1 {F : FTy → Type} [FloatOps F] (main_v4 : FVec F S4x2048x2048 .f32) (main_v7 : FVec F S4x2048 .f32) (main_v14 : FVec F S4x2048 .f32) (main_v17 : FVec F S4x2048 .f32) : IVec S4x2048x1024 1 :=
  let main_cst_5 : FVec F S_ .f32 := constant S_ .f32 0x3FB70A3D#32
  let main_v18 : FVec F S4x2048 .f32 := broadcastInDim S4x2048 ![] bcast_S_S4x2048 main_cst_5
  let main_v19 : FVec F S4x2048 .f32 := mulf main_v18 main_v14
  let main_v20 : FVec F S4x2048 .f32 := addf main_v7 main_v19
  let main_cst_6 : FVec F S_ .f32 := constant S_ .f32 0x42740000#32
  let main_v21 : FVec F S4x2048 .f32 := broadcastInDim S4x2048 ![] bcast_S_S4x2048 main_cst_6
  let main_cst_7 : FVec F S_ .f32 := constant S_ .f32 0xC2400000#32
  let main_v22 : FVec F S4x2048 .f32 := broadcastInDim S4x2048 ![] bcast_S_S4x2048 main_cst_7
  let main_cst_8 : FVec F S_ .f32 := constant S_ .f32 0x431C0000#32
  let main_v23 : FVec F S4x2048 .f32 := broadcastInDim S4x2048 ![] bcast_S_S4x2048 main_cst_8
  let main_cst_9 : FVec F S_ .f32 := constant S_ .f32 0x00000000#32
  let main_v24 : FVec F S4x2048 .f32 := broadcastInDim S4x2048 ![] bcast_S_S4x2048 main_cst_9
  let main_v25 : FVec F S4x2048 .f32 := mulf main_v17 main_v22
  let main_v26 : FVec F S4x2048 .f32 := mulf main_v20 main_v21
  let main_v27 : FVec F S4x2048 .f32 := subf main_v25 main_v26
  let main_v28 : FVec F S4x2048 .f32 := subf main_v22 main_v21
  let main_v29 : FVec F S4x2048 .f32 := Host.divf main_v27 main_v28
  let main_v30 : FVec F S4x2048x2048 .f32 := broadcastInDim S4x2048x2048 ![0, 1] bcast_S4x2048_S4x2048x2048_0_1 main_v29
  let main_v31 : IVec S4x2048x2048 1 := cmpf .oge main_v4 main_v30
  let main_v32 : FVec F S4x2048x2048 .f32 := uitofp .f32 main_v31
  let main_cst_10 : FVec F S_ .f32 := constant S_ .f32 0x00000000#32
  let main_v33 : FVec F S4x2048 .f32 := (fun x v => Host.reduceAdd x v reducesTo_S4x2048x2048_S4x2048_d2 h_S_) main_v32 main_cst_10
  let main_cst_11 : FVec F S_ .f32 := constant S_ .f32 0x434C0000#32
  let main_v34 : FVec F S4x2048 .f32 := broadcastInDim S4x2048 ![] bcast_S_S4x2048 main_cst_11
  fn_part2 (F := F) main_v4 main_v17 main_v20 main_v21 main_v22 main_v23 main_v24 main_v29 main_v33 main_v34

def fn {F : FTy → Type} [FloatOps F] (main_arg0 : FVec F S4x2048x1024 .f32) (main_arg1 : FVec F S4x2048x1024 .f32) (main_arg2 : FVec F S4x2048x1024 .f32) (main_arg3 : FVec F S1024x32 .f32) : IVec S4x2048x1024 1 :=
  let main_v0 : FVec F S4x2048x32 .f32 := (fun l r => Host.dotGeneral dot_S4x2048x1024_S1024x32_S4x2048x32_2_0_01_1_n_n none l r) main_arg0 main_arg3
  let main_v1 : FVec F S4x2048x32 .f32 := (fun l r => Host.dotGeneral dot_S4x2048x1024_S1024x32_S4x2048x32_2_0_01_1_n_n none l r) main_arg1 main_arg3
  let main_v2 : FVec F S4x2048x2048 .f32 := (fun l r => Host.dotGeneral dot_S4x2048x32_S4x2048x32_S4x2048x2048_2_2_1_1_0_0 none l r) main_v0 main_v1
  let main_cst : FVec F S_ .f32 := constant S_ .f32 0x42000000#32
  let main_v3 : FVec F S4x2048x2048 .f32 := broadcastInDim S4x2048x2048 ![] bcast_S_S4x2048x2048 main_cst
  let main_v4 : FVec F S4x2048x2048 .f32 := Host.divf main_v2 main_v3
  let main_cst_0 : FVec F S_ .f32 := constant S_ .f32 0x00000000#32
  let main_v5 : FVec F S4x2048 .f32 := (fun x v => Host.reduceAdd x v reducesTo_S4x2048x2048_S4x2048_d2 h_S_) main_v4 main_cst_0
  let main_cst_1 : FVec F S_ .f32 := constant S_ .f32 0x45000000#32
  let main_v6 : FVec F S4x2048 .f32 := broadcastInDim S4x2048 ![] bcast_S_S4x2048 main_cst_1
  let main_v7 : FVec F S4x2048 .f32 := Host.divf main_v5 main_v6
  let main_v8 : FVec F S4x2048x2048 .f32 := broadcastInDim S4x2048x2048 ![0, 1] bcast_S4x2048_S4x2048x2048_0_1 main_v7
  let main_v9 : FVec F S4x2048x2048 .f32 := subf main_v4 main_v8
  let main_v10 : FVec F S4x2048x2048 .f32 := mulf main_v9 main_v9
  let main_cst_2 : FVec F S_ .f32 := constant S_ .f32 0x00000000#32
  let main_v11 : FVec F S4x2048 .f32 := (fun x v => Host.reduceAdd x v reducesTo_S4x2048x2048_S4x2048_d2 h_S_) main_v10 main_cst_2
  let main_cst_3 : FVec F S_ .f32 := constant S_ .f32 0x45000000#32
  let main_v12 : FVec F S4x2048 .f32 := broadcastInDim S4x2048 ![] bcast_S_S4x2048 main_cst_3
  let main_v13 : FVec F S4x2048 .f32 := Host.divf main_v11 main_v12
  let main_v14 : FVec F S4x2048 .f32 := Host.sqrt main_v13
  let main_cst_4 : FVec F S_ .f32 := constant S_ .f32 0x3F90A3D7#32
  let main_v15 : FVec F S4x2048 .f32 := broadcastInDim S4x2048 ![] bcast_S_S4x2048 main_cst_4
  let main_v16 : FVec F S4x2048 .f32 := mulf main_v15 main_v14
  let main_v17 : FVec F S4x2048 .f32 := addf main_v7 main_v16
  fn_part1 (F := F) main_v4 main_v7 main_v14 main_v17
-- ==== Pre_finite_inputs.lean ====
abbrev S4x2048x1024 : Shape := ⟨3, ![4, 2048, 1024]⟩
abbrev S1024x32 : Shape := ⟨2, ![1024, 32]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel

variable [Facts]

def fn {F : FTy → Type} [FloatOps F] (main_arg0 : FVec F S4x2048x1024 .f32) (main_arg1 : FVec F S4x2048x1024 .f32) (main_arg2 : FVec F S4x2048x1024 .f32) (main_arg3 : FVec F S1024x32 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  main_v8
-- ==== Kernel.lean ====
abbrev S4x2048x1024 : Shape := ⟨3, ![4, 2048, 1024]⟩
abbrev S1024x32 : Shape := ⟨2, ![1024, 32]⟩
abbrev S1x256x1024 : Shape := ⟨3, ![1, 256, 1024]⟩
abbrev S1x2048x1024 : Shape := ⟨3, ![1, 2048, 1024]⟩
abbrev S2048x32 : Shape := ⟨2, ![2048, 32]⟩
abbrev S40x32 : Shape := ⟨2, ![40, 32]⟩
abbrev S2048x1024 : Shape := ⟨2, ![2048, 1024]⟩
abbrev S32x32 : Shape := ⟨2, ![32, 32]⟩
abbrev S32 : Shape := ⟨1, ![32]⟩
abbrev S1x32 : Shape := ⟨2, ![1, 32]⟩
abbrev S256x1024 : Shape := ⟨2, ![256, 1024]⟩
abbrev S256x32 : Shape := ⟨2, ![256, 32]⟩
abbrev S256x2048 : Shape := ⟨2, ![256, 2048]⟩
abbrev S256x1 : Shape := ⟨2, ![256, 1]⟩
abbrev S256 : Shape := ⟨1, ![256]⟩

abbrev nBuf : Space → Nat
  | .hbm => 5
  | .vmem => 12
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x32, .f32⟩
  | .hbm, ⟨4, _⟩ => ⟨S4x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x2048x1024, .f32⟩
  | .local _ .vmem, ⟨3, _⟩ => ⟨S1x2048x1024, .f32⟩
  | .local _ .vmem, ⟨4, _⟩ => ⟨S1x2048x1024, .f32⟩
  | .local _ .vmem, ⟨5, _⟩ => ⟨S1x2048x1024, .f32⟩
  | .local _ .vmem, ⟨6, _⟩ => ⟨S1024x32, .f32⟩
  | .local _ .vmem, ⟨7, _⟩ => ⟨S1x256x1024, .f32⟩
  | .local _ .vmem, ⟨8, _⟩ => ⟨S1x256x1024, .f32⟩
  | .local _ .vmem, ⟨9, _⟩ => ⟨S2048x32, .f32⟩
  | .local _ .vmem, ⟨10, _⟩ => ⟨S40x32, .f32⟩
  | .local _ .vmem, ⟨11, _⟩ => ⟨S2048x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x2048x1024 : Shape := ⟨3, ![4, 2048, 1024]⟩
abbrev S1024x32 : Shape := ⟨2, ![1024, 32]⟩
abbrev S4x2048x32 : Shape := ⟨3, ![4, 2048, 32]⟩
abbrev S4x2048x2048 : Shape := ⟨3, ![4, 2048, 2048]⟩
abbrev S4x2048x204 : Shape := ⟨3, ![4, 2048, 204]⟩
abbrev S4 : Shape := ⟨1, ![4]⟩
abbrev S4x1x1 : Shape := ⟨3, ![4, 1, 1]⟩
abbrev S2048 : Shape := ⟨1, ![2048]⟩
abbrev S1x2048x1 : Shape := ⟨3, ![1, 2048, 1]⟩
abbrev S_ : Shape := ⟨0, ![]⟩
abbrev S4x2048x204x1 : Shape := ⟨4, ![4, 2048, 204, 1]⟩
abbrev S4x2048x204x3 : Shape := ⟨4, ![4, 2048, 204, 3]⟩
abbrev S4x2048 : Shape := ⟨2, ![4, 2048]⟩
abbrev S4x2048x1 : Shape := ⟨3, ![4, 2048, 1]⟩

abbrev nBuf : Space → Nat
  | .hbm => 88
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x32, .f32⟩
  | .hbm, ⟨4, _⟩ => ⟨S4x2048x32, .f32⟩
  | .hbm, ⟨5, _⟩ => ⟨S4x2048x32, .f32⟩
  | .hbm, ⟨6, _⟩ => ⟨S4x2048x2048, .f32⟩
  | .hbm, ⟨7, _⟩ => ⟨S4x2048x204, .f32⟩
  | .hbm, ⟨8, _⟩ => ⟨S4x2048x204, .i32⟩
  | .hbm, ⟨9, _⟩ => ⟨S4, .i32⟩
  | .hbm, ⟨10, _⟩ => ⟨S4x1x1, .i32⟩
  | .hbm, ⟨11, _⟩ => ⟨S2048, .i32⟩
  | .hbm, ⟨12, _⟩ => ⟨S1x2048x1, .i32⟩
  | .hbm, ⟨13, _⟩ => ⟨S_, .f32⟩
  | .hbm, ⟨14, _⟩ => ⟨S4x2048x2048, .f32⟩
  | .hbm, ⟨15, _⟩ => ⟨S_, .i32⟩
  | .hbm, ⟨16, _⟩ => ⟨S4x1x1, .i32⟩
  | .hbm, ⟨17, _⟩ => ⟨S4x1x1, .i1⟩
  | .hbm, ⟨18, _⟩ => ⟨S_, .i32⟩
  | .hbm, ⟨19, _⟩ => ⟨S4x1x1, .i32⟩
  | .hbm, ⟨20, _⟩ => ⟨S4x1x1, .i32⟩
  | .hbm, ⟨21, _⟩ => ⟨S4x1x1, .i32⟩
  | .hbm, ⟨22, _⟩ => ⟨S_, .i32⟩
  | .hbm, ⟨23, _⟩ => ⟨S1x2048x1, .i32⟩
  | .hbm, ⟨24, _⟩ => ⟨S1x2048x1, .i1⟩
  | .hbm, ⟨25, _⟩ => ⟨S_, .i32⟩
  | .hbm, ⟨26, _⟩ => ⟨S1x2048x1, .i32⟩
  | .hbm, ⟨27, _⟩ => ⟨S1x2048x1, .i32⟩
  | .hbm, ⟨28, _⟩ => ⟨S1x2048x1, .i32⟩
  | .hbm, ⟨29, _⟩ => ⟨S_, .i32⟩
  | .hbm, ⟨30, _⟩ => ⟨S4x2048x204, .i32⟩
  | .hbm, ⟨31, _⟩ => ⟨S4x2048x204, .i1⟩
  | .hbm, ⟨32, _⟩ => ⟨S_, .i32⟩
  | .hbm, ⟨33, _⟩ => ⟨S4x2048x204, .i32⟩
  | .hbm, ⟨34, _⟩ => ⟨S4x2048x204, .i32⟩
  | .hbm, ⟨35, _⟩ => ⟨S4x2048x204, .i32⟩
  | .hbm, ⟨36, _⟩ => ⟨S4x2048x204, .i32⟩
  | .hbm, ⟨37, _⟩ => ⟨S4x2048x204, .i32⟩
  | .hbm, ⟨38, _⟩ => ⟨S4x2048x204x1, .i32⟩
  | .hbm, ⟨39, _⟩ => ⟨S4x2048x204x1, .i32⟩
  | .hbm, ⟨40, _⟩ => ⟨S4x2048x204x1, .i32⟩
  | .hbm, ⟨41, _⟩ => ⟨S4x2048x204x3, .i32⟩
  | .hbm, ⟨42, _⟩ => ⟨S_, .f32⟩
  | .hbm, ⟨43, _⟩ => ⟨S4x2048x204, .f32⟩
  | .hbm, ⟨44, _⟩ => ⟨S4x2048x2048, .f32⟩
  | .hbm, ⟨45, _⟩ => ⟨S4x2048x2048, .f32⟩
  | .hbm, ⟨46, _⟩ => ⟨S_, .f32⟩
  | .hbm, ⟨47, _⟩ => ⟨S4x2048x2048, .f32⟩
  | .hbm, ⟨48, _⟩ => ⟨S4x2048x2048, .f32⟩
  | .hbm, ⟨49, _⟩ => ⟨S_, .f32⟩
  | .hbm, ⟨50, _⟩ => ⟨S4x2048x2048, .f32⟩
  | .hbm, ⟨51, _⟩ => ⟨S4x2048x2048, .i1⟩
  | .hbm, ⟨52, _⟩ => ⟨S_, .f32⟩
  | .hbm, ⟨53, _⟩ => ⟨S_, .f32⟩
  | .hbm, ⟨54, _⟩ => ⟨S4x2048x2048, .f32⟩
  | .hbm, ⟨55, _⟩ => ⟨S4x2048x2048, .f32⟩
  | .hbm, ⟨56, _⟩ => ⟨S_, .f32⟩
  | .hbm, ⟨57, _⟩ => ⟨S4x2048, .f32⟩
  | .hbm, ⟨58, _⟩ => ⟨S_, .f32⟩
  | .hbm, ⟨59, _⟩ => ⟨S4x2048, .f32⟩
  | .hbm, ⟨60, _⟩ => ⟨S4x2048, .f32⟩
  | .hbm, ⟨61, _⟩ => ⟨S4x2048x1, .f32⟩
  | .hbm, ⟨62, _⟩ => ⟨S4x2048x2048, .f32⟩
  | .hbm, ⟨63, _⟩ => ⟨S4x2048x2048, .f32⟩
  | .hbm, ⟨64, _⟩ => ⟨S4x2048x2048, .f32⟩
  | .hbm, ⟨65, _⟩ => ⟨S_, .f32⟩
  | .hbm, ⟨66, _⟩ => ⟨S4x2048, .f32⟩
  | .hbm, ⟨67, _⟩ => ⟨S4x2048x1, .f32⟩
  | .hbm, ⟨68, _⟩ => ⟨S4x2048x2048, .f32⟩
  | .hbm, ⟨69, _⟩ => ⟨S4x2048x2048, .f32⟩
  | .hbm, ⟨70, _⟩ => ⟨S_, .f32⟩
  | .hbm, ⟨71, _⟩ => ⟨S4x2048x2048, .i1⟩
  | .hbm, ⟨72, _⟩ => ⟨S_, .f32⟩
  | .hbm, ⟨73, _⟩ => ⟨S4x2048x2048, .f32⟩
  | .hbm, ⟨74, _⟩ => ⟨S4x2048x2048, .f32⟩
  | .hbm, ⟨75, _⟩ => ⟨S_, .f32⟩
  | .hbm, ⟨76, _⟩ => ⟨S4x2048x2048, .f32⟩
  | .hbm, ⟨77, _⟩ => ⟨S4x2048x2048, .i1⟩
  | .hbm, ⟨78, _⟩ => ⟨S_, .f32⟩
  | .hbm, ⟨79, _⟩ => ⟨S4x2048x2048, .f32⟩
  | .hbm, ⟨80, _⟩ => ⟨S4x2048x2048, .f32⟩
  | .hbm, ⟨81, _⟩ => ⟨S_, .f32⟩
  | .hbm, ⟨82, _⟩ => ⟨S4x2048x2048, .f32⟩
  | .hbm, ⟨83, _⟩ => ⟨S4x2048x2048, .i1⟩
  | .hbm, ⟨84, _⟩ => ⟨S_, .f32⟩
  | .hbm, ⟨85, _⟩ => ⟨S4x2048x2048, .f32⟩
  | .hbm, ⟨86, _⟩ => ⟨S4x2048x2048, .f32⟩
  | .hbm, ⟨87, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_values : Ref sig .tc := ⟨.hbm, 7, rfl⟩
abbrev main_indices : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_call0_v0 : Ref sig .tc := ⟨.hbm, 53, rfl⟩
abbrev main_call0_v1 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_cst_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_11 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_12 : Ref sig .tc := ⟨.hbm, 70, rfl⟩
abbrev main_call1_v0 : Ref sig .tc := ⟨.hbm, 71, rfl⟩
abbrev main_call1_v1 : Ref sig .tc := ⟨.hbm, 72, rfl⟩
abbrev main_call1_call0_v0 : Ref sig .tc := ⟨.hbm, 73, rfl⟩
abbrev main_call1_v2 : Ref sig .tc := ⟨.hbm, 74, rfl⟩
abbrev main_call1_cst : Ref sig .tc := ⟨.hbm, 75, rfl⟩
abbrev main_call1_v3 : Ref sig .tc := ⟨.hbm, 76, rfl⟩
abbrev main_call1_v4 : Ref sig .tc := ⟨.hbm, 77, rfl⟩
abbrev main_call1_cst_0 : Ref sig .tc := ⟨.hbm, 78, rfl⟩
abbrev main_call1_call1_v0 : Ref sig .tc := ⟨.hbm, 79, rfl⟩
abbrev main_call1_v5 : Ref sig .tc := ⟨.hbm, 80, rfl⟩
abbrev main_call1_cst_1 : Ref sig .tc := ⟨.hbm, 81, rfl⟩
abbrev main_call1_v6 : Ref sig .tc := ⟨.hbm, 82, rfl⟩
abbrev main_call1_v7 : Ref sig .tc := ⟨.hbm, 83, rfl⟩
abbrev main_call1_cst_2 : Ref sig .tc := ⟨.hbm, 84, rfl⟩
abbrev main_call1_call2_v0 : Ref sig .tc := ⟨.hbm, 85, rfl⟩
abbrev main_v48 : Ref sig .tc := ⟨.hbm, 86, rfl⟩
abbrev main_v49 : Ref sig .tc := ⟨.hbm, 87, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Points
public import proofs.«01_k».proof.Proof.Gen.KernelIdeal.Launch
public import proofs.«01_k».proof.Proof.Gen.KernelIdeal.Skeleton
public import Idealize.ShloMosaic.Lib.Pipeline.FrameBody
public import Idealize.ShloMosaic.Lib.Tactic
public import Idealize.ShloMosaic.Lib.VecWindow
public import Idealize.ShloMosaic.Lib.WordCmp

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rectangle of the statistics scratch that holds the second moments of the projected keys, -/
abbrev momRect : Rect S40x32 := Rect.unit (s := S40x32) ![0, 0] S32x32.size inb_S40x32_S32x32_0_0
/-- and the one that holds their mean. -/
abbrev meanRect : Rect S40x32 := Rect.unit (s := S40x32) ![32, 0] S1x32.size inb_S40x32_S1x32_32_0

/-- The condition under which a grid point prepares the scratch: it is the first of its batch. -/
abbrev firstOfBatch (i : grid0.Coords) : Prop := (Scalar.cmpi .ne (Scalar.extui (Scalar.cmpi .eq (BitVec.ofNat 32 (i 1).val) 0#32)) 0#32) = 1#1

/-- The block a grid point writes, as a function of the query block, the keys, the projection, and
    what the scratch holds: the projected keys, their second moments and mean, and the values. -/
def tile (x0 : Vec F S1x256x1024 .f32) (x1 : Vec F S1x2048x1024 .f32) (x3 : Vec F S1024x32 .f32) (kp : Vec F S2048x32 .f32) (mm : Vec F S32x32 .f32) (kb : Vec F S1x32 .f32) (vb : Vec F S2048x1024 .bf16) : Vec F S1x256x1024 .f32 :=
  let v10 := k0_pay9 x3 x0 kp
  let v13 := k0_pay10 x0 x1
  let v16 := k0_pay11 x3 x0 kb
  let v28 := k0_pay13 x3 x0 mm kb
  let v30 := k0_pay14 x3 x0 mm kb
  let v65 := k0_pay23 v10 v16 v28 v30
  let v66 := k0_pay24 v10 v16 v28 v30
  let v67 := k0_pay25 v10 v16 v28 v30
  let v68 := k0_pay26 v10 v16 v28 v30
  let v69 := k0_pay27 v10 v16 v28 v30
  let v72 := k0_pay28 v10 v16 v28 v30
  let v75 := k0_pay29 v10 v16 v28 v30
  let v101 := k0_pay34 v10 v65 v66 v68 v75
  let v102 := k0_pay35 v10 v66 v68 v72 v75
  let v103 := k0_pay36 v10 v66 v67 v68 v75
  let v104 := k0_pay37 v10 v66 v68 v72 v75
  let v105 := k0_pay38 v10 v66 v68 v69 v75
  let v108 := k0_pay39 v10 v66 v68 v75
  let v113 := k0_pay40 v10 v65 v66 v67 v68 v72 v75
  let v119 := k0_pay41 v10 v65 v66 v67 v68 v72 v75
  let v121 := k0_pay42 v10 v65 v66 v67 v68 v72 v75
  let v122 := k0_pay43 (F := F)
  let v137 := k0_pay45 v101 v113 v121 v122
  let v138 := k0_pay46 v102 v108 v121 v122
  let v139 := k0_pay47 v103 v113 v121 v122
  let v141 := k0_pay49 v105 v119 v121 v122
  let v149 := k0_pay51 v101 v102 v103 v104 v108 v113 v121 v122
  let v155 := k0_pay52 v10 v101 v102 v103 v104 v108 v113 v121 v122
  let v157 := k0_pay53 v10 v101 v102 v103 v104 v108 v113 v121 v122
  let v159 := k0_pay54 v10 v101 v102 v103 v104 v108 v113 v121 v122
  let v165 := k0_pay55 v10 v101 v102 v103 v104 v108 v113 v121 v122
  let v166 := k0_pay56 v10 v101 v102 v103 v104 v108 v113 v121 v122
  let v168 := k0_pay57 v121 v122
  let v195 := k0_pay66 v10 v137 v138 v139 v149 v157 v159 v165 v166 v168
  let v209 := k0_pay67 v10 v137 v138 v139 v149 v157 v159 v165 v166 v168
  let v210 := k0_pay68 v10 v137 v138 v139 v149 v157 v159 v165 v166 v168
  let v211 := k0_pay69 v10 v137 v138 v139 v149 v157 v159 v165 v166 v168
  let v212 := k0_pay70 v10 v137 v138 v139 v149 v157 v159 v165 v166 v168
  let v213 := k0_pay71 v10 v137 v138 v139 v141 v149 v155 v157 v159 v165 v166 v168
  let v214 := k0_pay72 (F := F)
  let v215 := k0_pay73 (F := F)
  let v245 := k0_pay78 v10 v209 v210 v211 v212
  let v247 := k0_pay79 v10 v209 v210 v211 v212
  let v249 := k0_pay80 v10 v209 v210 v211 v212 v213
  let v254 := k0_pay81 v10 v195 v209 v210 v211 v212 v214 v215
  let v260 := k0_pay82 v10 v195 v209 v210 v211 v212 v214 v215
  let v264 := k0_pay83 v10 v195 v209 v210 v211 v212 v214 v215
  k0_pay1 (k0_pay84 v10 v13 v245 v247 v249 v254 v260 v264 vb)

/-- The statistics scratch holds the second moments of the projected keys and their mean. Its last
    rows are never written and are left free. -/
def Stats (x3 : Vec F S1024x32 .f32) (x1 : Vec F S1x2048x1024 .f32) (d : Vec F S40x32 .f32) : Prop :=
  View.ld d momRect = k0_pay4 x3 x1 ∧ View.ld d meanRect = k0_pay5 x3 x1

set_option maxHeartbeats 4000000 in
theorem runB (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1x2048x1024 .f32) (harg4 : arg4.IsWhole) (arg5 : Memref sig .tc .vmem S1024x32 .f32) (harg5 : arg5.IsWhole) (arg6 : Memref sig .tc .vmem S1x256x1024 .f32) (harg6 : arg6.IsWhole) (arg7 : Memref sig .tc .vmem S2048x32 .f32) (harg7 : arg7.IsWhole) (arg8 : Memref sig .tc .vmem S40x32 .f32) (harg8 : arg8.IsWhole) (arg9 : Memref sig .tc .vmem S2048x1024 .bf16) (harg9 : arg9.IsWhole) (hc0 : ¬ firstOfBatch i)
    (x0 : Vec F S1x256x1024 .f32) (x1 : Vec F S1x2048x1024 .f32) (x2 : Vec F S1x2048x1024 .f32) (x3 : Vec F S1024x32 .f32) (kp : Vec F S2048x32 .f32) (st : Vec F S40x32 .f32) (vb : Vec F S2048x1024 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare kp ∗ owns (c : Thread nD τ) arg8 fullShare st ∗ owns (c : Thread nD τ) arg9 fullShare vb
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (tile x0 x1 x3 kp (View.ld st momRect) (View.ld st meanRect) vb) ∗ owns (c : Thread nD τ) arg7 fullShare kp ∗ owns (c : Thread nD τ) arg8 fullShare st ∗ owns (c : Thread nD τ) arg9 fullShare vb) -∗ K ⟨⟩))
          ⊢ wp frame (wpE (defs₀ (F := F)) Variants.none c none) E (cc0__attn_block_kernel i arg2 harg2 arg3 harg3 arg4 harg4 arg5 harg5 arg6 harg6 arg7 harg7 arg8 harg8 arg9 harg9) K := by
    intro E K
    simp only [cc0__attn_block_kernel_eq_skeleton]; unfold cc0__attn_block_kernel_skel
    simp only [k0_part7_eq_skeleton, k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, ⟨%fs2, %hs2, HS2⟩, Hk⟩
    obtain rfl := harg2.eq_unread hf0; obtain rfl := harg3.eq_unread hf1; obtain rfl := harg4.eq_unread hf2; obtain rfl := harg5.eq_unread hf3
    obtain rfl := harg7.eq_unread hs0; obtain rfl := harg8.eq_unread hs1; obtain rfl := harg9.eq_unread hs2
    sl_exec (disch := first | sl_exact hc0)
    sl_step
    sl_unfold_words
    have e2 : View.readAt (Elt F) arg2.view (Rect.unit ![0, 0, 0] ![1, 256, 1024] inb_S1x256x1024_S1x256x1024_0_0_0).toLoadRect (harg2.unread x0) = x0 :=
      (View.readAt_full (s := S1x256x1024) _ _ _).trans (harg2.read_unread _)
    have e3 : View.readAt (Elt F) arg3.view (Rect.unit ![0, 0, 0] ![1, 2048, 1024] inb_S1x2048x1024_S1x2048x1024_0_0_0).toLoadRect (harg3.unread x1) = x1 :=
      (View.readAt_full (s := S1x2048x1024) _ _ _).trans (harg3.read_unread _)
    have e5 : View.readAt (Elt F) arg5.view (Rect.unit ![0, 0] ![1024, 32] inb_S1024x32_S1024x32_0_0).toLoadRect (harg5.unread x3) = x3 :=
      (View.readAt_full (s := S1024x32) _ _ _).trans (harg5.read_unread _)
    have e7 : View.readAt (Elt F) arg7.view (Rect.unit ![0, 0] ![2048, 32] inb_S2048x32_S2048x32_0_0).toLoadRect (harg7.unread kp) = kp :=
      (View.readAt_full (s := S2048x32) _ _ _).trans (harg7.read_unread _)
    have e8 : View.readAt (Elt F) arg8.view (Rect.unit ![0, 0] ![32, 32] inb_S40x32_S32x32_0_0).toLoadRect (harg8.unread st) = View.ld st momRect :=
      (View.readAt_eq_ld _ _ _).trans (by rw [harg8.read_unread])
    have e8' : View.readAt (Elt F) arg8.view (Rect.unit ![32, 0] ![1, 32] inb_S40x32_S1x32_32_0).toLoadRect (harg8.unread st) = View.ld st meanRect :=
      (View.readAt_eq_ld _ _ _).trans (by rw [harg8.read_unread])
    have e9 : View.readAt (Elt F) arg9.view (Rect.unit ![0, 0] ![2048, 1024] inb_S2048x1024_S2048x1024_0_0).toLoadRect (harg9.unread vb) = vb :=
      (View.readAt_full (s := S2048x1024) _ _ _).trans (harg9.read_unread _)
    simp only [e2, e3, e5, e7, e8, e8', e9]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      rw [View.read_writes_full]
      rfl
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

/-- The two stores into the statistics scratch, read back. -/
theorem stats_writes {M : Memref sig .tc .vmem S40x32 .f32} (f : M.view.ty.Contents (Elt F))
    (x3 : Vec F S1024x32 .f32) (x1 : Vec F S1x2048x1024 .f32) :
    Stats x3 x1 (View.read (Elt F) M.view (M.view.writes (Elt F) f [⟨meanRect, k0_pay5 x3 x1⟩, ⟨momRect, k0_pay4 x3 x1⟩])) := by
  refine ⟨funext fun x => ?_, funext fun x => ?_⟩
  · refine (View.read_writes_cons_miss_of_axis M.view f _ _ _ 0 32 1 rfl rfl rfl (.inl ?_)).trans
      (View.read_writes_cons_emb M.view f momRect _ _ x)
    have h : (x 0).val < 32 := (x 0).isLt
    show 0 + 1 * (x 0).val < 32
    omega
  · exact View.read_writes_cons_emb M.view f meanRect _ _ x

/-- The moments loaded after the two stores are the moments stored, -/
theorem moments_back {M : Memref sig .tc .vmem S40x32 .f32} (x3 : Vec F S1024x32 .f32) (x1 : Vec F S1x2048x1024 .f32) :
    M.view.readCov (Val := Elt F) [⟨meanRect, k0_pay5 x3 x1⟩, ⟨momRect, k0_pay4 x3 x1⟩] momRect.toLoadRect = k0_pay4 x3 x1 :=
  (stats_writes M.view.junk x3 x1).1

/-- and the mean loaded is the mean stored. -/
theorem mean_back {M : Memref sig .tc .vmem S40x32 .f32} (x3 : Vec F S1024x32 .f32) (x1 : Vec F S1x2048x1024 .f32) :
    M.view.readCov (Val := Elt F) [⟨meanRect, k0_pay5 x3 x1⟩, ⟨momRect, k0_pay4 x3 x1⟩] meanRect.toLoadRect = k0_pay5 x3 x1 :=
  (stats_writes M.view.junk x3 x1).2

set_option maxHeartbeats 4000000 in
theorem runA (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1x2048x1024 .f32) (harg4 : arg4.IsWhole) (arg5 : Memref sig .tc .vmem S1024x32 .f32) (harg5 : arg5.IsWhole) (arg6 : Memref sig .tc .vmem S1x256x1024 .f32) (harg6 : arg6.IsWhole) (arg7 : Memref sig .tc .vmem S2048x32 .f32) (harg7 : arg7.IsWhole) (arg8 : Memref sig .tc .vmem S40x32 .f32) (harg8 : arg8.IsWhole) (arg9 : Memref sig .tc .vmem S2048x1024 .bf16) (harg9 : arg9.IsWhole) (hc0 : firstOfBatch i)
    (x0 : Vec F S1x256x1024 .f32) (x1 : Vec F S1x2048x1024 .f32) (x2 : Vec F S1x2048x1024 .f32) (x3 : Vec F S1024x32 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (tile x0 x1 x3 (k0_pay3 x3 x1) (k0_pay4 x3 x1) (k0_pay5 x3 x1) (k0_pay6 x2)) ∗ owns (c : Thread nD τ) arg7 fullShare (k0_pay3 x3 x1) ∗ (∃ d, iprop(⌜Stats x3 x1 d⌝ ∗ owns (c : Thread nD τ) arg8 fullShare d)) ∗ owns (c : Thread nD τ) arg9 fullShare (k0_pay6 x2)) -∗ K ⟨⟩))
          ⊢ wp frame (wpE (defs₀ (F := F)) Variants.none c none) E (cc0__attn_block_kernel i arg2 harg2 arg3 harg3 arg4 harg4 arg5 harg5 arg6 harg6 arg7 harg7 arg8 harg8 arg9 harg9) K := by
    intro E K
    simp only [cc0__attn_block_kernel_eq_skeleton]; unfold cc0__attn_block_kernel_skel
    simp only [k0_part7_eq_skeleton, k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | sl_exact hc0)
    sl_step
    sl_unfold_words
    have e2 : View.readAt (Elt F) arg2.view (Rect.unit ![0, 0, 0] ![1, 256, 1024] inb_S1x256x1024_S1x256x1024_0_0_0).toLoadRect (harg2.unread x0) = x0 :=
      (View.readAt_full (s := S1x256x1024) _ _ _).trans (harg2.read_unread _)
    have e3 : View.readAt (Elt F) arg3.view (Rect.unit ![0, 0, 0] ![1, 2048, 1024] inb_S1x2048x1024_S1x2048x1024_0_0_0).toLoadRect (harg3.unread x1) = x1 :=
      (View.readAt_full (s := S1x2048x1024) _ _ _).trans (harg3.read_unread _)
    have e4 : View.readAt (Elt F) arg4.view (Rect.unit ![0, 0, 0] ![1, 2048, 1024] inb_S1x2048x1024_S1x2048x1024_0_0_0).toLoadRect (harg4.unread x2) = x2 :=
      (View.readAt_full (s := S1x2048x1024) _ _ _).trans (harg4.read_unread _)
    have e5 : View.readAt (Elt F) arg5.view (Rect.unit ![0, 0] ![1024, 32] inb_S1024x32_S1024x32_0_0).toLoadRect (harg5.unread x3) = x3 :=
      (View.readAt_full (s := S1024x32) _ _ _).trans (harg5.read_unread _)
    have e7 : arg7.view.readCov (Val := Elt F) [⟨Rect.unit ![0, 0] ![2048, 32] inb_S2048x32_S2048x32_0_0, k0_pay3 x3 x1⟩] (Rect.unit ![0, 0] ![2048, 32] inb_S2048x32_S2048x32_0_0).toLoadRect = k0_pay3 x3 x1 :=
      View.readCov_full (s := S2048x32) _ _ _ _ _
    have e9 : arg9.view.readCov (Val := Elt F) [⟨Rect.unit ![0, 0] ![2048, 1024] inb_S2048x1024_S2048x1024_0_0, k0_pay6 x2⟩] (Rect.unit ![0, 0] ![2048, 1024] inb_S2048x1024_S2048x1024_0_0).toLoadRect = k0_pay6 x2 :=
      View.readCov_full (s := S2048x1024) _ _ _ _ _
    have e8 : arg8.view.readCov (Val := Elt F) [⟨Rect.unit ![32, 0] ![1, 32] inb_S40x32_S1x32_32_0, k0_pay5 x3 x1⟩, ⟨Rect.unit ![0, 0] ![32, 32] inb_S40x32_S32x32_0_0, k0_pay4 x3 x1⟩] (Rect.unit ![0, 0] ![32, 32] inb_S40x32_S32x32_0_0).toLoadRect = k0_pay4 x3 x1 :=
      moments_back x3 x1
    have e8' : arg8.view.readCov (Val := Elt F) [⟨Rect.unit ![32, 0] ![1, 32] inb_S40x32_S1x32_32_0, k0_pay5 x3 x1⟩, ⟨Rect.unit ![0, 0] ![32, 32] inb_S40x32_S32x32_0_0, k0_pay4 x3 x1⟩] (Rect.unit ![32, 0] ![1, 32] inb_S40x32_S1x32_32_0).toLoadRect = k0_pay5 x3 x1 :=
      mean_back x3 x1
    simp only [e2, e3, e4, e5, e7, e8, e8', e9]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      rw [View.read_writes_full]
      rfl
    isplitl [HS0]
    · iexists _; isplitr; swap; · iexact HS0
      ipureintro
      rw [View.read_writes_full]
    isplitl [HS1]
    · iexists _; isplitr; swap
      · iexists _; isplitr; swap; · iexact HS1
        ipureintro; rfl
      ipureintro
      exact stats_writes _ _ _
    iexists _; isplitr; swap; · iexact HS2
    ipureintro
    rw [View.read_writes_full]

end Cert.KernelIdeal.Body

end
-- ==== Proof.Launch.lean ====
module

public import proofs.«01_k».proof.Proof.Body
public import Idealize.ShloMosaic.Lib.Pipeline.Value
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The result as one function of the four arrays -/

/-- Place `(b, n, e)` of a `[4, 2048, 1024]` array. -/
def at3 (b : Fin 4) (n : Fin 2048) (e : Fin 1024) : S4x2048x1024.Idx :=
  fun a => match a with | ⟨0, _⟩ => b | ⟨1, _⟩ => n | ⟨2, _⟩ => e

/-- Row `p` of the `i`-th block of 256 rows. -/
def rowOf (i : Fin 8) (p : Fin 256) : Fin 2048 := ⟨i.val * 256 + p.val, by omega⟩

/-- The `i`-th block of 256 rows of batch `b`, -/
def rows (A : Vec F S4x2048x1024 .f32) (b : Fin 4) (i : Fin 8) : Vec F S1x256x1024 .f32 :=
  fun x => A (at3 b (rowOf i (x 1)) (x 2))

/-- and the whole of batch `b`. -/
def whole (A : Vec F S4x2048x1024 .f32) (b : Fin 4) : Vec F S1x2048x1024 .f32 :=
  fun x => A (at3 b (x 1) (x 2))

/-- The block of the result at block `i` of batch `b`. -/
def blockOut (q k v : Vec F S4x2048x1024 .f32) (pr : Vec F S1024x32 .f32) (b : Fin 4) (i : Fin 8) : Vec F S1x256x1024 .f32 :=
  tile (rows q b i) (whole k b) pr (k0_pay3 pr (whole k b)) (k0_pay4 pr (whole k b)) (k0_pay5 pr (whole k b)) (k0_pay6 (whole v b))

/-- A place of one block. -/
def at3s (p : Fin 256) (e : Fin 1024) : S1x256x1024.Idx :=
  fun a => match a with | ⟨0, _⟩ => (0 : Fin 1) | ⟨1, _⟩ => p | ⟨2, _⟩ => e

/-- The whole result. -/
def result (q k v : Vec F S4x2048x1024 .f32) (pr : Vec F S1024x32 .f32) : Vec F S4x2048x1024 .f32 := fun j =>
  blockOut q k v pr (j 0) ⟨(j 1).val / 256, by have h : (j 1).val < 2048 := (j 1).isLt; omega⟩
    (at3s ⟨(j 1).val % 256, Nat.mod_lt _ (by decide)⟩ (j 2))

/-! ## The windows' blocks are those of the arrays -/

/-- The batch of a grid point, -/
def batchOf (t : Fin cfg0.N) : Fin 4 := ⟨t.val / 8, by have h : t.val < 32 := Nat.lt_of_lt_of_eq t.isLt N_0; omega⟩
/-- and its block of rows. -/
def tileOf (t : Fin cfg0.N) : Fin 8 := ⟨t.val % 8, Nat.mod_lt _ (by decide)⟩

theorem index0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem index1 : ∀ t : Fin cfg0.N, win0_1.index t (0 : Fin 3) = t.val / 8 ∧ win0_1.index t (1 : Fin 3) = 0 ∧ win0_1.index t (2 : Fin 3) = 0 :=
  (by decide +kernel : ∀ t : Fin grid0.N, _)
theorem index2 : ∀ t : Fin cfg0.N, win0_2.index t (0 : Fin 3) = t.val / 8 ∧ win0_2.index t (1 : Fin 3) = 0 ∧ win0_2.index t (2 : Fin 3) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 3) = t.val / 8 ∧ win0_4.index t (1 : Fin 3) = t.val % 8 ∧ win0_4.index t (2 : Fin 3) = 0 :=
  (by decide +kernel : ∀ t : Fin grid0.N, _)

theorem place0 (t : Fin cfg0.N) (j : S1x256x1024.Idx) : ((cfg0.win 0).blk t).view.emb j = at3 (batchOf t) (rowOf (tileOf t) (j 1)) (j 2) := by
  obtain ⟨e0, e1, e2⟩ := index0 t
  have h0 : (j 0).val < 1 := (j 0).isLt
  funext a; apply Fin.ext
  match a with
  | ⟨0, _⟩ => show win0_0.index t (0 : Fin 3) * 1 + 1 * (j 0).val = t.val / 8; omega
  | ⟨1, _⟩ => show win0_0.index t (1 : Fin 3) * 256 + 1 * (j 1).val = t.val % 8 * 256 + (j 1).val; omega
  | ⟨2, _⟩ => show win0_0.index t (2 : Fin 3) * 1024 + 1 * (j 2).val = (j 2).val; omega

theorem place1 (t : Fin cfg0.N) (j : S1x2048x1024.Idx) : ((cfg0.win 1).blk t).view.emb j = at3 (batchOf t) (j 1) (j 2) := by
  obtain ⟨e0, e1, e2⟩ := index1 t
  have h0 : (j 0).val < 1 := (j 0).isLt
  funext a; apply Fin.ext
  match a with
  | ⟨0, _⟩ => show win0_1.index t (0 : Fin 3) * 1 + 1 * (j 0).val = t.val / 8; omega
  | ⟨1, _⟩ => show win0_1.index t (1 : Fin 3) * 2048 + 1 * (j 1).val = (j 1).val; omega
  | ⟨2, _⟩ => show win0_1.index t (2 : Fin 3) * 1024 + 1 * (j 2).val = (j 2).val; omega

theorem place2 (t : Fin cfg0.N) (j : S1x2048x1024.Idx) : ((cfg0.win 2).blk t).view.emb j = at3 (batchOf t) (j 1) (j 2) := by
  obtain ⟨e0, e1, e2⟩ := index2 t
  have h0 : (j 0).val < 1 := (j 0).isLt
  funext a; apply Fin.ext
  match a with
  | ⟨0, _⟩ => show win0_2.index t (0 : Fin 3) * 1 + 1 * (j 0).val = t.val / 8; omega
  | ⟨1, _⟩ => show win0_2.index t (1 : Fin 3) * 2048 + 1 * (j 1).val = (j 1).val; omega
  | ⟨2, _⟩ => show win0_2.index t (2 : Fin 3) * 1024 + 1 * (j 2).val = (j 2).val; omega

theorem place3 (t : Fin cfg0.N) (j : S1024x32.Idx) : ((cfg0.win 3).blk t).view.emb j = j := by
  obtain ⟨e0, e1⟩ := index3 t
  funext a; apply Fin.ext
  match a with
  | ⟨0, _⟩ => show win0_3.index t (0 : Fin 2) * 1024 + 1 * (j 0).val = (j 0).val; omega
  | ⟨1, _⟩ => show win0_3.index t (1 : Fin 2) * 32 + 1 * (j 1).val = (j 1).val; omega

theorem place4 (t : Fin cfg0.N) (j : S1x256x1024.Idx) : ((cfg0.win 4).blk t).view.emb j = at3 (batchOf t) (rowOf (tileOf t) (j 1)) (j 2) := by
  obtain ⟨e0, e1, e2⟩ := index4 t
  have h0 : (j 0).val < 1 := (j 0).isLt
  funext a; apply Fin.ext
  match a with
  | ⟨0, _⟩ => show win0_4.index t (0 : Fin 3) * 1 + 1 * (j 0).val = t.val / 8; omega
  | ⟨1, _⟩ => show win0_4.index t (1 : Fin 3) * 256 + 1 * (j 1).val = t.val % 8 * 256 + (j 1).val; omega
  | ⟨2, _⟩ => show win0_4.index t (2 : Fin 3) * 1024 + 1 * (j 2).val = (j 2).val; omega

theorem iblk0_eq (c : Dev nD) (t : Fin cfg0.N) : iblk m c 0 t = rows (V m c main_arg0) (batchOf t) (tileOf t) := by
  funext j; show V m c main_arg0 (((cfg0.win 0).blk t).view.emb j) = _; rw [place0]; rfl
theorem iblk1_eq (c : Dev nD) (t : Fin cfg0.N) : iblk m c 1 t = whole (V m c main_arg1) (batchOf t) := by
  funext j; show V m c main_arg1 (((cfg0.win 1).blk t).view.emb j) = _; rw [place1]; rfl
theorem iblk2_eq (c : Dev nD) (t : Fin cfg0.N) : iblk m c 2 t = whole (V m c main_arg2) (batchOf t) := by
  funext j; show V m c main_arg2 (((cfg0.win 2).blk t).view.emb j) = _; rw [place2]; rfl
theorem iblk3_eq (c : Dev nD) (t : Fin cfg0.N) : iblk m c 3 t = V m c main_arg3 := by
  funext j; show V m c main_arg3 (((cfg0.win 3).blk t).view.emb j) = _; rw [place3]

/-! ## The proof data: what the scratch holds point by point -/

abbrev scr0 : Memref sig .tc .vmem S2048x32 .f32 := Memref.whole cc0_scratch0
abbrev scr1 : Memref sig .tc .vmem S40x32 .f32 := Memref.whole cc0_scratch1
abbrev scr2 : Memref sig .tc .vmem S2048x1024 .bf16 := Memref.whole cc0_scratch2

/-- The scratch prepared for batch `b`: its projected keys, their statistics, and its values. -/
def held (c : Dev nD) (b : Fin 4) : sProp 𝕄 :=
  iprop(owns (c : Thread nD τ) scr0 fullShare (k0_pay3 (V m c main_arg3) (whole (V m c main_arg1) b))
    ∗ (∃ d, iprop(⌜Stats (V m c main_arg3) (whole (V m c main_arg1) b) d⌝ ∗ owns (c : Thread nD τ) scr1 fullShare d))
    ∗ owns (c : Thread nD τ) scr2 fullShare (k0_pay6 (whole (V m c main_arg2) b)))

theorem anything_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d)) ∗ (∃ r, prngReg c r)) := by
  unfold Pipeline.ΦA; rw [scopedRest0_eq]; simp only [scr0, scr1, scr2, owns_whole]; try rfl

/-- Before point `n`: anything before the first, and after it the scratch of the last point's batch. -/
def carried (c : Dev nD) (n : Fin (cfg0.N + 1)) : sProp 𝕄 :=
  if h : n.val = 0 then Pipeline.ΦA spec0 c
  else iprop(held m c ⟨(n.val - 1) / 8, by have h : n.val < 32 + 1 := Nat.lt_of_lt_of_eq n.isLt (congrArg (· + 1) N_0); omega⟩ ∗ (∃ r, prngReg c r))

theorem carried_zero (c : Dev nD) (n : Fin (cfg0.N + 1)) (h : n.val = 0) : carried m c n = Pipeline.ΦA spec0 c := dif_pos h
theorem carried_pos (c : Dev nD) (n : Fin (cfg0.N + 1)) (b : Fin 4) (h : n.val ≠ 0) (hb : (n.val - 1) / 8 = b.val) :
    carried m c n = iprop(held m c b ∗ (∃ r, prngReg c r)) := by
  unfold carried; rw [dif_neg h]
  have : (⟨(n.val - 1) / 8, by have h : n.val < 32 + 1 := Nat.lt_of_lt_of_eq n.isLt (congrArg (· + 1) N_0); omega⟩ : Fin 4) = b := Fin.ext hb
  rw [this]

/-- What the scratch holds may be forgotten. -/
theorem carried_forget (c : Dev nD) (n : Fin (cfg0.N + 1)) : carried m c n ⊢ Pipeline.ΦA spec0 c := by
  by_cases h : n.val = 0
  · rw [carried_zero m c n h]
  · rw [carried_pos m c n ⟨(n.val - 1) / 8, by have h : n.val < 32 + 1 := Nat.lt_of_lt_of_eq n.isLt (congrArg (· + 1) N_0); omega⟩ h rfl, anything_eq]
    unfold held
    iintro ⟨⟨H0, ⟨%d, -, H1⟩, H2⟩, Hg⟩
    isplitl [H0 H1 H2]
    · isplitl [H0]; · iexists _; iexact H0
      isplitl [H1]; · iexists _; iexact H1
      iexists _; iexact H2
    iexact Hg

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blockOut (V m c main_arg0) (V m c main_arg1) (V m c main_arg2) (V m c main_arg3) (batchOf t) (tileOf t)
  Φ n := carried m c n
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = blockOut (V m c main_arg0) (V m c main_arg1) (V m c main_arg2) (V m c main_arg3) (batchOf t) (tileOf t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body at a point -/

abbrev stg0 (t : Fin cfg0.N) : Memref sig .tc .vmem S1x256x1024 .f32 := win0_0.stage (cfg0.slots t 0)
abbrev stg1 (t : Fin cfg0.N) : Memref sig .tc .vmem S1x2048x1024 .f32 := win0_1.stage (cfg0.slots t 1)
abbrev stg2 (t : Fin cfg0.N) : Memref sig .tc .vmem S1x2048x1024 .f32 := win0_2.stage (cfg0.slots t 2)
abbrev stg3 (t : Fin cfg0.N) : Memref sig .tc .vmem S1024x32 .f32 := win0_3.stage (cfg0.slots t 3)
abbrev stg4 (t : Fin cfg0.N) : Memref sig .tc .vmem S1x256x1024 .f32 := win0_4.stage (cfg0.slots t 4)

theorem first_iff : ∀ t : Fin cfg0.N, firstOfBatch (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [firstOfBatch, e0, e1]
    word_cmp
   : ∀ t : Fin grid0.N, firstOfBatch (grid0.coords t) ↔ t.val % 8 = 0)

/-- An entailment from a weaker first part. -/
theorem weaken_first {P Q R W : sProp 𝕄} (h : P ⊢ Q) (k : iprop(Q ∗ R) ⊢ W) : iprop(P ∗ R) ⊢ W := (sep_mono_l h).trans k

def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t))

set_option maxHeartbeats 1600000 in
/-- The body at any point: the first of a batch prepares the scratch, whatever it held; any other finds
    it prepared. Both write the point's block of the result. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = carried m c t.succ from rfl, show (dats m 0 c).Φ t.castSucc = carried m c t.castSucc from rfl,
    show (dats m 0 c).owesAt () t.succ = (dats m 0 c).owesAt () t.castSucc from rfl,
    after0, after1, after2, after3, after4, iblk0_eq, iblk1_eq, iblk2_eq, iblk3_eq]
  have hN : t.val < 32 := lt_of_lt_of_eq t.isLt (show cfg0.N = 32 from N_0)
  rw [carried_pos m c t.succ (batchOf t) (Nat.succ_ne_zero _) (by rw [Fin.val_succ]; rfl)]
  unfold blockOut
  by_cases h0 : t.val % 8 = 0
  · refine weaken_first (carried_forget m c t.castSucc) ?_
    rw [anything_eq]
    unfold held
    iintro ⟨⟨⟨HS0, HS1, HS2⟩, Hg⟩, Ho, ⟨%d0, H0⟩, ⟨%d1, H1⟩, ⟨%d2, H2⟩, ⟨%d3, H3⟩, ⟨%d4, H4⟩⟩
    iapply ((runA c (grid0.coords t) _ _ _ _ _ _ _ _ _ _ _ _ _ _ _ _ ((first_iff t).mpr h0) (rows (V m c main_arg0) (batchOf t) (tileOf t)) (whole (V m c main_arg1) (batchOf t)) (whole (V m c main_arg2) (batchOf t)) (V m c main_arg3)) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H0, H1, H2, H3, H4, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    iexact H4
  · rw [carried_pos m c t.castSucc (batchOf t) (fun h => h0 (by rw [Fin.val_castSucc] at h; rw [h])) (by rw [Fin.val_castSucc]; show (t.val - 1) / 8 = t.val / 8; omega)]
    unfold held
    iintro ⟨⟨⟨HS0, ⟨%st, %hst, HS1⟩, HS2⟩, Hg⟩, Ho, ⟨%d0, H0⟩, ⟨%d1, H1⟩, ⟨%d2, H2⟩, ⟨%d3, H3⟩, ⟨%d4, H4⟩⟩
    rw [← hst.1, ← hst.2]
    iapply ((runB c (grid0.coords t) _ _ _ _ _ _ _ _ _ _ _ _ _ _ _ _ (fun h => h0 ((first_iff t).mp h)) (rows (V m c main_arg0) (batchOf t) (tileOf t)) (whole (V m c main_arg1) (batchOf t)) (whole (V m c main_arg2) (batchOf t)) (V m c main_arg3) _ st _) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H0, H1, H2, H3, H4, HS0, HS1, HS2⟩
    isplitl [HS0 HS1 HS2 Hg]
    · isplitl [HS0 HS1 HS2]
      · isplitl [HS0]
        · iexact HS0
        isplitl [HS1]
        · iexists st
          isplitr; · ipureintro; exact hst
          iexact HS1
        iexact HS2
      iexact Hg
    isplitl [Ho]; · iexact Ho
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every execution ends with the arrays as the proof data says and every semaphore at zero. -/
theorem run_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by rw [show (dats m 0 c).Φ 0 = carried m c 0 from rfl, carried_zero m c 0 rfl])
    (hout := fun c => carried_forget m c (Fin.last cfg0.N))

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) ((θ_run defs _ _).mono (fun _ h => h.1) (run_quiescent m ρ))

/-- The frame: the arguments end unchanged and every semaphore at zero. -/
theorem frame_ends : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_quiescent m ρ))

/-! ## The result array -/

theorem cut4_eq (t : Fin cfg0.N) (X : Vec F S1x256x1024 .f32) : (cfg0.win 4).cut (grid0.coords t) X = X := rfl

theorem flushed4_eq (c : Dev nD) (t : Fin cfg0.N) :
    (dats m 0 c).flushed 4 t = ((cfg0.win 4).blk t).view.read (Elt F) (result (V m c main_arg0) (V m c main_arg1) (V m c main_arg2) (V m c main_arg3)) := by
  funext j
  show (dats m 0 c).after 4 t j = result _ _ _ _ (((cfg0.win 4).blk t).view.emb j)
  rw [after4, place4]
  have h1 : (j 1).val < 256 := (j 1).isLt
  have hi : (⟨(rowOf (tileOf t) (j 1)).val / 256, by have := (rowOf (tileOf t) (j 1)).isLt; omega⟩ : Fin 8) = tileOf t :=
    Fin.ext (by show (t.val % 8 * 256 + (j 1).val) / 256 = t.val % 8; omega)
  have hj : at3s ⟨(rowOf (tileOf t) (j 1)).val % 256, Nat.mod_lt _ (by decide)⟩ (j 2) = j := by
    have h0 : (j 0).val < 1 := (j 0).isLt
    funext a; apply Fin.ext
    match a with
    | ⟨0, _⟩ => show (0 : Fin 1).val = (j 0).val; rw [Fin.val_zero]; omega
    | ⟨1, _⟩ => show (t.val % 8 * 256 + (j 1).val) % 256 = (j 1).val; omega
    | ⟨2, _⟩ => rfl
  show _ = blockOut _ _ _ _ (batchOf t) ⟨(rowOf (tileOf t) (j 1)).val / 256, _⟩ (at3s ⟨(rowOf (tileOf t) (j 1)).val % 256, _⟩ (j 2))
  rw [hi, hj]

theorem covered4 (i : S4x2048x1024.Idx) : ∃ t : Fin cfg0.N, (cfg0.win 4).flush t = true ∧ i ∈ ((cfg0.win 4).blk t).view.set := by
  have h0 : (i 0).val < 4 := (i 0).isLt
  have h1 : (i 1).val < 2048 := (i 1).isLt
  let t : Fin cfg0.N := (⟨(i 0).val * 8 + (i 1).val / 256, by rw [N_0]; omega⟩ : Fin grid0.N)
  refine ⟨t, flush0_4 t, ?_⟩
  have h := ((cfg0.win 4).blk t).view.emb_mem_set (at3s ⟨(i 1).val % 256, Nat.mod_lt _ (by decide)⟩ (i 2))
  rw [place4] at h
  have e : at3 (batchOf t) (rowOf (tileOf t) (at3s ⟨(i 1).val % 256, Nat.mod_lt _ (by decide)⟩ (i 2) 1)) (at3s ⟨(i 1).val % 256, Nat.mod_lt _ (by decide)⟩ (i 2) 2) = i := by
    funext a; apply Fin.ext
    match a with
    | ⟨0, _⟩ => show ((i 0).val * 8 + (i 1).val / 256) / 8 = (i 0).val; omega
    | ⟨1, _⟩ => show ((i 0).val * 8 + (i 1).val / 256) % 8 * 256 + (i 1).val % 256 = (i 1).val; omega
    | ⟨2, _⟩ => rfl
  exact e ▸ h

theorem final4 (c : Dev nD) : (dats m 0 c).arrAt 4 cfg0.N
    = result (m ((c : Thread nD τ).loc main_arg0)) (m ((c : Thread nD τ).loc main_arg1)) (m ((c : Thread nD τ).loc main_arg2)) (m ((c : Thread nD τ).loc main_arg3)) :=
  (dats m 0 c).arrAt_eq_of_cover 4 (result (V m c main_arg0) (V m c main_arg1) (V m c main_arg2) (V m c main_arg3)) (fun t _ => flushed4_eq m c t) covered4

/-- The run: the result array ends at `result` of the arguments, which are unchanged. -/
theorem run : θ_run defs (onTc (τ := τ) (main (F := F))) ⟨m, fun _ => 0, ρ⟩ (fun r => ∀ c : Dev nD,
      r.2.mem ((c.tc : Thread nD τ).loc main_v0) = result (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 4).trans (final4 m c), h.2 c⟩)
    (θ_run_and ((θ_run defs _ _).mono (fun _ h => h.1) (run_quiescent m ρ)) (unchanged m ρ))

end Cert.KernelIdeal.Body

end
-- ==== Proof.RefFrame.lean ====
module

public import proofs.«01_k».proof.Proof.Gen.ReferenceIdeal.Run
public import proofs.«01_k».proof.Proof.Gen.ReferenceIdeal.Read
public import Idealize.ShloMosaic.Lib.Quiescent

@[expose] public section

set_option maxRecDepth 16384

noncomputable section

/-! # The reference's run -/

namespace Cert.ReferenceIdeal.Ends

open Cert.ReferenceIdeal Cert.ReferenceIdeal.Gen Cert.ReferenceIdeal.Read
open Idealize.ShloMosaic Idealize.SL.Sem

variable (m : (ℓ : Loc nD τ sig) → Buf (Elt Ideal) ℓ) (ρ : Dev nD → PrngReg)

/-- The result ends at the reference's composed term of the arguments, which are unchanged. -/
theorem run : θ_run defs (onTc (τ := τ) (main (F := Ideal))) ⟨m, fun _ => 0, ρ⟩ (fun r => ∀ c : Dev nD,
      r.2.mem ((c.tc : Thread nD τ).loc main_v49) = val_main_v49 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (val_main_v49_eq _), (h c).2⟩) (Cert.ReferenceIdeal.Value.run (F := Ideal) m ρ)

/-- The frame: the arguments end unchanged, and a program without semaphores has every counter at zero. -/
theorem frame_ends : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h c).2, sem_eq_zero_of_no_sems (by decide) _⟩) (run m ρ)

end Cert.ReferenceIdeal.Ends
-- ==== Proof.Search.lean ====
module

public import Idealize.ShloMosaic.PureOps.Ideal
public import Idealize.ShloMosaic.PureOps.Ideal.Laws

@[expose] public section

noncomputable section

/-! # The search for a row's threshold

One row of similarities `s` has 2048 entries. Both programs keep a bracket on each row: two trial
thresholds and what was learnt at them. A step tries the point where the line through the two ends
crosses the wanted count, and replaces the end it agrees with in sign. Seven steps, then two exact
moves to the next smaller entry where the count still falls short by one or two. Everything here is
about one row of extended reals, whatever the program that runs it. -/

namespace Cert.Search

open Idealize.ShloMosaic

/-- The number a single-precision word denotes. -/
abbrev lit (b : BitVec 32) : EReal := Ideal.ofBits .f32 b

/-- The bracket of one row: its lower and upper trial threshold, the excess over the wanted count
    recorded for each, the count known at the upper end, and which end moved last. -/
structure St where
  lo : EReal
  hi : EReal
  flo : EReal
  fhi : EReal
  above : EReal
  side : EReal

/-- How many entries of the row reach the threshold. -/
def cnt (s : Fin 2048 → EReal) (t : EReal) : EReal := ∑ k, if t ≤ s k then 1 else 0

/-- The numerator of the next trial threshold, -/
def num (a : St) : EReal := a.lo * a.fhi - a.hi * a.flo
/-- and the threshold: where the line through the two ends crosses zero. -/
def guess (a : St) : EReal := Ideal.div (num a) (a.fhi - a.flo)
/-- The count at the trial threshold, -/
def count (s : Fin 2048 → EReal) (a : St) : EReal := cnt s (guess a)
/-- by how much it exceeds 204, -/
def excess (s : Fin 2048 → EReal) (a : St) : EReal := count s a - lit 0x434C0000#32
/-- and the bit that says that it is at least 204. -/
def enough (s : Fin 2048 → EReal) (a : St) : BitVec 1 := Ideal.cmp .oge (excess s a) (lit 0x00000000#32)
/-- The bit that says that the lower end moved last, -/
def wasLo (a : St) : BitVec 1 := Ideal.cmp .ogt a.side (lit 0x00000000#32)
/-- and that the upper end did. -/
def wasHi (a : St) : BitVec 1 := Ideal.cmp .olt a.side (lit 0x00000000#32)
/-- The excess kept for the upper end is halved when the lower end moves twice running, -/
def halvedHi (s : Fin 2048 → EReal) (a : St) : EReal :=
  Scalar.select (IntOp.andi (enough s a) (wasLo a)) (a.fhi * lit 0x3F000000#32) a.fhi
/-- and the one kept for the lower end when the upper end does. -/
def halvedLo (s : Fin 2048 → EReal) (a : St) : EReal :=
  Scalar.select (IntOp.andi (IntOp.xori (enough s a) 1#1) (wasHi a)) (a.flo * lit 0x3F000000#32) a.flo

/-- One step of the search. -/
def next (s : Fin 2048 → EReal) (a : St) : St where
  lo := Scalar.select (enough s a) (guess a) a.lo
  hi := Scalar.select (enough s a) a.hi (guess a)
  flo := Scalar.select (enough s a) (excess s a) (halvedLo s a)
  fhi := Scalar.select (enough s a) (halvedHi s a) (excess s a)
  above := Scalar.select (enough s a) a.above (count s a)
  side := Scalar.select (enough s a) (lit 0x3F800000#32) (lit 0xBF800000#32)

/-- The largest entry of the row below `t`: an entry that is not counts as a very negative number. -/
def below (s : Fin 2048 → EReal) (t : EReal) : EReal :=
  Finset.univ.fold max (lit 0xFF800000#32) fun k => if s k < t then s k else lit 0xFF7FC99E#32

/-- How far the count at the upper end falls short of 204. -/
def missing (a : St) : EReal := lit 0x434C0000#32 - a.above

/-- The threshold a finished search answers with. -/
def snap (s : Fin 2048 → EReal) (a : St) : EReal :=
  Scalar.select (Ideal.cmp .oeq (missing a) (lit 0x40000000#32)) (below s (below s a.hi))
    (Scalar.select (Ideal.cmp .oeq (missing a) (lit 0x3F800000#32)) (below s a.hi) a.lo)

/-- The bracket a search starts from, given its two ends. -/
def start (lo hi : EReal) : St := ⟨lo, hi, lit 0x42740000#32, lit 0xC2400000#32, lit 0x431C0000#32, lit 0x00000000#32⟩

/-- The threshold of a row with the given mean and deviation. -/
def thr (s : Fin 2048 → EReal) (mean std : EReal) : EReal :=
  snap s ((next s)^[7] (start (mean + lit 0x3F90A3D7#32 * std) (mean + lit 0x3FB70A3D#32 * std)))

end Cert.Search
-- ==== Proof.Lits.lean ====
module

public import proofs.«01_k».proof.Proof.Search

@[expose] public section

set_option maxRecDepth 16384

noncomputable section

/-! # The literals' values, and sums of real numbers among extended ones -/

namespace Cert.Search

open Idealize.ShloMosaic

theorem lit_zero : lit 0x00000000#32 = 0 := Ideal.ofBits_zero_f32
theorem lit_32 : lit 0x42000000#32 = ((32 : ℝ) : EReal) := by
  simp [Ideal.ofBits, Ideal.ieee, -EReal.coe_mul]; norm_num
theorem lit_inv32 : lit 0x3D000000#32 = ((1 / 32 : ℝ) : EReal) := by
  simp [Ideal.ofBits, Ideal.ieee, -EReal.coe_mul]; norm_num
theorem lit_2048 : lit 0x45000000#32 = ((2048 : ℝ) : EReal) := by
  simp [Ideal.ofBits, Ideal.ieee, -EReal.coe_mul]; norm_num
theorem lit_inv2048 : lit 0x3A000000#32 = ((1 / 2048 : ℝ) : EReal) := by
  simp [Ideal.ofBits, Ideal.ieee, -EReal.coe_mul]; norm_num
theorem lit_204 : lit 0x434C0000#32 = ((204 : ℝ) : EReal) := by
  simp [Ideal.ofBits, Ideal.ieee, -EReal.coe_mul]; norm_num
theorem lit_156 : lit 0x431C0000#32 = ((156 : ℝ) : EReal) := by
  simp [Ideal.ofBits, Ideal.ieee, -EReal.coe_mul]; norm_num
theorem lit_neg48 : lit 0xC2400000#32 = ((-48 : ℝ) : EReal) := by
  simp [Ideal.ofBits, Ideal.ieee, -EReal.coe_mul]; norm_num
theorem lit_61 : lit 0x42740000#32 = ((61 : ℝ) : EReal) := by
  simp [Ideal.ofBits, Ideal.ieee, -EReal.coe_mul]; norm_num
theorem lit_half : lit 0x3F000000#32 = ((1 / 2 : ℝ) : EReal) := by
  simp [Ideal.ofBits, Ideal.ieee, -EReal.coe_mul]; norm_num
theorem lit_one : lit 0x3F800000#32 = ((1 : ℝ) : EReal) := by
  simp [Ideal.ofBits, Ideal.ieee, -EReal.coe_mul]; norm_num
theorem lit_two : lit 0x40000000#32 = ((2 : ℝ) : EReal) := by
  simp [Ideal.ofBits, Ideal.ieee, -EReal.coe_mul]; norm_num
theorem lit_near : lit 0x3F90A3D7#32 = ((9479127 / 8388608 : ℝ) : EReal) := by
  simp [Ideal.ofBits, Ideal.ieee, -EReal.coe_mul]; norm_num
theorem lit_far : lit 0x3FB70A3D#32 = ((11995709 / 8388608 : ℝ) : EReal) := by
  simp [Ideal.ofBits, Ideal.ieee, -EReal.coe_mul]; norm_num
theorem lit_top : lit 0x7F800000#32 = ⊤ := by
  simp [Ideal.ofBits, Ideal.ieee]
theorem lit_bot : lit 0xFF800000#32 = ⊥ := by
  simp [Ideal.ofBits, Ideal.ieee]

/-- A sum of real numbers is the same sum among the extended reals. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem div_32 (x : ℝ) : Ideal.div (x : EReal) (lit 0x42000000#32) = ((x * (1 / 32) : ℝ) : EReal) := by
  rw [lit_32, Ideal.div_coe (by norm_num), EReal.coe_mul]

theorem div_2048 (x : ℝ) : Ideal.div (x : EReal) (lit 0x45000000#32) = ((x * (1 / 2048) : ℝ) : EReal) := by
  rw [lit_2048, Ideal.div_coe (by norm_num), EReal.coe_mul]

end Cert.Search
-- ==== Proof.Finite.lean ====
module

public import proofs.«01_k».proof.Pre_finite_inputs
public import proofs.«01_k».proof.Proof.Lits
public import Idealize.ShloMosaic.Lib.ReduceAll
public import Idealize.ShloMosaic.Lib.Pointwise

@[expose] public section

set_option maxRecDepth 16384

noncomputable section

/-! # The precondition, read

The queries and the keys are real numbers. -/

namespace Cert.Pre_finite_inputs

open Idealize.ShloMosaic Cert.Search

variable [Facts]

/-- An extended real whose absolute value is below plus infinity is a real number. -/
theorem real_of_lt (x : EReal) (h : FloatOps.cmpf (F := Ideal) (φ := .f32) .olt (FloatOps.hostAbsf (F := Ideal) (φ := .f32) x) (lit 0x7F800000#32) = 1#1) :
    ((x.toReal : ℝ) : EReal) = x := by
  have hlt : max x (-x) < ⊤ := by
    by_contra hn
    rw [← lit_top] at hn
    rw [show FloatOps.cmpf (F := Ideal) (φ := .f32) .olt (FloatOps.hostAbsf (F := Ideal) (φ := .f32) x) (lit 0x7F800000#32) = 0#1 from
      congrArg BitVec.ofBool (decide_eq_false hn)] at h
    exact absurd h (by decide)
  refine EReal.coe_toReal (fun e => ?_) (fun e => ?_)
  · rw [e] at hlt
    exact absurd hlt (not_lt.mpr (le_max_left _ _))
  · rw [e] at hlt
    exact absurd hlt (not_lt.mpr (le_max_right _ _))

theorem reals (q k v : FVec Ideal S4x2048x1024 .f32) (p : FVec Ideal S1024x32 .f32)
    (h : fn (F := Ideal) q k v p = fun _ => 1#1) :
    (∀ i, (((q i : EReal).toReal : ℝ) : EReal) = q i) ∧ (∀ i, (((k i : EReal).toReal : ℝ) : EReal) = k i) := by
  have e := congrFun h (Shape.Idx.first Facts.h_S_)
  have hs : Subsingleton S_.Idx := ⟨fun a b => funext fun c => c.elim0⟩
  dsimp only [fn] at e
  obtain ⟨hq, hk⟩ := IntOp.andi_eq_one.mp e
  have small : ∀ {s : Shape} (b : S_.BroadcastsInDim s (![] : Fin 0 → Fin s.rank)) (x : FVec Ideal s .f32) (i : s.Idx),
      cmpf .olt (Host.absf x) (broadcastInDim s ![] b (constant (F := Ideal) S_ .f32 0x7F800000#32)) i = 1#1 → (((x i : EReal).toReal : ℝ) : EReal) = x i :=
    fun b x i hi => real_of_lt (x i) hi
  exact ⟨fun i => small _ q i (Host.reduce_andi_all _ _ _ _ _ hq i), fun i => small _ k i (Host.reduce_andi_all _ _ _ _ _ hk i)⟩

end Cert.Pre_finite_inputs
-- ==== Proof.KernelRow.lean ====
module

public import proofs.«01_k».proof.Proof.Body
public import proofs.«01_k».proof.Proof.Lits
public import Idealize.ShloMosaic.Lib.Pointwise
public import Idealize.ShloMosaic.Lib.KernelVsHost

@[expose] public section

set_option maxRecDepth 16384

noncomputable section

namespace Cert.KernelIdeal.Row

open Cert.KernelIdeal Cert.KernelIdeal.Gen Cert.Search
open Idealize.ShloMosaic

/-- A column index is its row and lane zero. -/
theorem col_eq (i : S256x1.Idx) : ix2 (n0 := 256) (n1 := 1) (i 0) 0 = i := by
  funext a
  match a with
  | ⟨0, _⟩ => rfl
  | ⟨1, _⟩ => exact Subsingleton.elim (α := Fin 1) _ _

/-- The row of similarities a column entry stands beside. -/
abbrev row (v10 : FVec Ideal S256x2048 .f32) (i : S256x1.Idx) : Fin 2048 → EReal :=
  fun k => v10 (ix2 (n0 := 256) (n1 := 2048) (i 0) k)

/-- For each row, how many entries reach that row's threshold, as the kernel counts them, -/
def countCol (v10 : FVec Ideal S256x2048 .f32) (t : FVec Ideal S256x1 .f32) : FVec Ideal S256x1 .f32 :=
  shapeCast S256x1 (multiReduction .add [1] S256 (sitofp .f32 (extui 32 (cmpf .oge v10 (broadcastTo S256x2048 t broadcasts_S256x1_S256x2048)) natLt_1_32)) 0x00000000#32 reduces_S256x2048_S256 (.inl rfl) rfl) shapeCasts_S256_S256x1

/-- and the largest entry below it. -/
def belowCol (v10 : FVec Ideal S256x2048 .f32) (t : FVec Ideal S256x1 .f32) : FVec Ideal S256x1 .f32 :=
  shapeCast S256x1 (multiReduction .maximumf [1] S256 (select (cmpf .olt v10 (broadcastTo S256x2048 t broadcasts_S256x1_S256x2048)) v10 (broadcast S256x2048 (Scalar.ofBits .f32 0xFF7FC99E#32))) 0xFF800000#32 reduces_S256x2048_S256 (.inl rfl) rfl) shapeCasts_S256_S256x1

/-- A bit read as a number. -/
theorem bit_toNat (p : Prop) [Decidable p] : (((BitVec.ofBool (decide p)).toNat : ℝ) : EReal) = if p then 1 else 0 := by
  by_cases h : p <;> simp [h]

theorem countCol_eq (v10 : FVec Ideal S256x2048 .f32) (t : FVec Ideal S256x1 .f32) :
    countCol v10 t = fun i => cnt (row v10 i) (t i) := by
  funext i
  unfold countCol
  rw [sitofp_extui_eq_uitofp]
  pointwise
  rw [col_eq i]
  exact Finset.sum_congr rfl fun k _ => bit_toNat _

theorem belowCol_eq (v10 : FVec Ideal S256x2048 .f32) (t : FVec Ideal S256x1 .f32) :
    belowCol v10 t = fun i => below (row v10 i) (t i) := by
  funext i
  unfold belowCol
  pointwise
  rw [col_eq i]
  rfl

/-- The count first recorded at the upper end is 156. -/
theorem above_start : Scalar.addf (F := Ideal) (Scalar.ofBits .f32 0x434C0000#32) (Scalar.ofBits .f32 0xC2400000#32) = lit 0x431C0000#32 := by
  show lit 0x434C0000#32 + lit 0xC2400000#32 = lit 0x431C0000#32
  rw [lit_204, lit_neg48, lit_156, ← EReal.coe_add]
  norm_num

/-! ## The first step -/

/-- The bracket each row starts from. -/
def begin (v16 v28 v30 : FVec Ideal S256x1 .f32) (i : S256x1.Idx) : St := start (v28 i) (v16 i + v30 i)

theorem p19 (v10 : FVec Ideal S256x2048 .f32) (v16 v28 v30 : FVec Ideal S256x1 .f32) :
    k0_pay19 (F := Ideal) v16 v28 v30 = fun i => guess (begin v16 v28 v30 i) := by
  rfl

theorem p20 (v10 : FVec Ideal S256x2048 .f32) (v16 v28 v30 : FVec Ideal S256x1 .f32) :
    k0_pay20 (F := Ideal) v10 v16 v28 v30 = fun i => count (row v10 i) (begin v16 v28 v30 i) := by
  rw [show k0_pay20 (F := Ideal) v10 v16 v28 v30 = countCol v10 (k0_pay19 (F := Ideal) v16 v28 v30) from rfl, p19 v10 v16 v28 v30, countCol_eq]
  rfl

theorem p21 (v10 : FVec Ideal S256x2048 .f32) (v16 v28 v30 : FVec Ideal S256x1 .f32) :
    k0_pay21 (F := Ideal) v10 v16 v28 v30 = fun i => excess (row v10 i) (begin v16 v28 v30 i) := by
  simp only [k0_pay21, p20 v10 v16 v28 v30] <;> rfl

theorem p22 (v10 : FVec Ideal S256x2048 .f32) (v16 v28 v30 : FVec Ideal S256x1 .f32) :
    k0_pay22 (F := Ideal) v10 v16 v28 v30 = fun i => enough (row v10 i) (begin v16 v28 v30 i) := by
  simp only [k0_pay22, p21 v10 v16 v28 v30] <;> rfl

theorem p23 (v10 : FVec Ideal S256x2048 .f32) (v16 v28 v30 : FVec Ideal S256x1 .f32) :
    k0_pay23 (F := Ideal) v10 v16 v28 v30 = fun i => (next (row v10 i) (begin v16 v28 v30 i)).lo := by
  simp only [k0_pay23, p19 v10 v16 v28 v30, p22 v10 v16 v28 v30] <;> rfl

theorem p24 (v10 : FVec Ideal S256x2048 .f32) (v16 v28 v30 : FVec Ideal S256x1 .f32) :
    k0_pay24 (F := Ideal) v10 v16 v28 v30 = fun i => (next (row v10 i) (begin v16 v28 v30 i)).flo := by
  simp only [k0_pay24, p21 v10 v16 v28 v30, p22 v10 v16 v28 v30] <;> rfl

theorem p25 (v10 : FVec Ideal S256x2048 .f32) (v16 v28 v30 : FVec Ideal S256x1 .f32) :
    k0_pay25 (F := Ideal) v10 v16 v28 v30 = fun i => (next (row v10 i) (begin v16 v28 v30 i)).hi := by
  simp only [k0_pay25, p19 v10 v16 v28 v30, p22 v10 v16 v28 v30] <;> rfl

theorem p26 (v10 : FVec Ideal S256x2048 .f32) (v16 v28 v30 : FVec Ideal S256x1 .f32) :
    k0_pay26 (F := Ideal) v10 v16 v28 v30 = fun i => (next (row v10 i) (begin v16 v28 v30 i)).fhi := by
  simp only [k0_pay26, p21 v10 v16 v28 v30, p22 v10 v16 v28 v30] <;> rfl

theorem p27 (v10 : FVec Ideal S256x2048 .f32) (v16 v28 v30 : FVec Ideal S256x1 .f32) :
    k0_pay27 (F := Ideal) v10 v16 v28 v30 = fun i => (next (row v10 i) (begin v16 v28 v30 i)).above := by
  simp only [k0_pay27, above_start, p20 v10 v16 v28 v30, p22 v10 v16 v28 v30] <;> rfl

theorem p28 (v10 : FVec Ideal S256x2048 .f32) (v16 v28 v30 : FVec Ideal S256x1 .f32) :
    k0_pay28 (F := Ideal) v10 v16 v28 v30 = fun i => (next (row v10 i) (begin v16 v28 v30 i)).side := by
  simp only [k0_pay28, p22 v10 v16 v28 v30] <;> rfl

theorem p29 (v10 : FVec Ideal S256x2048 .f32) (v16 v28 v30 : FVec Ideal S256x1 .f32) :
    k0_pay29 (F := Ideal) v10 v16 v28 v30 = fun i => num (next (row v10 i) (begin v16 v28 v30 i)) := by
  simp only [k0_pay29, p23 v10 v16 v28 v30, p24 v10 v16 v28 v30, p25 v10 v16 v28 v30, p26 v10 v16 v28 v30] <;> rfl

/-! ## The second step, and the threshold and count of the third -/

theorem p30 (v10 : FVec Ideal S256x2048 .f32) (S : S256x1.Idx → St) :
    k0_pay30 (F := Ideal) (fun i => (S i).flo) (fun i => (S i).fhi) (fun i => num (S i)) = fun i => guess (S i) := by
  rfl

theorem p31 (v10 : FVec Ideal S256x2048 .f32) (S : S256x1.Idx → St) :
    k0_pay31 (F := Ideal) v10 (fun i => (S i).flo) (fun i => (S i).fhi) (fun i => num (S i)) = fun i => count (row v10 i) (S i) := by
  rw [show k0_pay31 (F := Ideal) v10 (fun i => (S i).flo) (fun i => (S i).fhi) (fun i => num (S i)) = countCol v10 (k0_pay30 (F := Ideal) (fun i => (S i).flo) (fun i => (S i).fhi) (fun i => num (S i))) from rfl, p30 v10 S, countCol_eq]
  rfl

theorem p32 (v10 : FVec Ideal S256x2048 .f32) (S : S256x1.Idx → St) :
    k0_pay32 (F := Ideal) v10 (fun i => (S i).flo) (fun i => (S i).fhi) (fun i => num (S i)) = fun i => excess (row v10 i) (S i) := by
  simp only [k0_pay32, p31 v10 S] <;> rfl

theorem p33 (v10 : FVec Ideal S256x2048 .f32) (S : S256x1.Idx → St) :
    k0_pay33 (F := Ideal) v10 (fun i => (S i).flo) (fun i => (S i).fhi) (fun i => num (S i)) = fun i => enough (row v10 i) (S i) := by
  simp only [k0_pay33, p32 v10 S] <;> rfl

theorem p34 (v10 : FVec Ideal S256x2048 .f32) (S : S256x1.Idx → St) :
    k0_pay34 (F := Ideal) v10 (fun i => (S i).lo) (fun i => (S i).flo) (fun i => (S i).fhi) (fun i => num (S i)) = fun i => (next (row v10 i) (S i)).lo := by
  simp only [k0_pay34, p30 v10 S, p33 v10 S] <;> rfl

theorem p35 (v10 : FVec Ideal S256x2048 .f32) (S : S256x1.Idx → St) :
    k0_pay35 (F := Ideal) v10 (fun i => (S i).flo) (fun i => (S i).fhi) (fun i => (S i).side) (fun i => num (S i)) = fun i => (next (row v10 i) (S i)).flo := by
  simp only [k0_pay35, p32 v10 S, p33 v10 S] <;> rfl

theorem p36 (v10 : FVec Ideal S256x2048 .f32) (S : S256x1.Idx → St) :
    k0_pay36 (F := Ideal) v10 (fun i => (S i).flo) (fun i => (S i).hi) (fun i => (S i).fhi) (fun i => num (S i)) = fun i => (next (row v10 i) (S i)).hi := by
  simp only [k0_pay36, p30 v10 S, p33 v10 S] <;> rfl

theorem p37 (v10 : FVec Ideal S256x2048 .f32) (S : S256x1.Idx → St) :
    k0_pay37 (F := Ideal) v10 (fun i => (S i).flo) (fun i => (S i).fhi) (fun i => (S i).side) (fun i => num (S i)) = fun i => (next (row v10 i) (S i)).fhi := by
  simp only [k0_pay37, p32 v10 S, p33 v10 S] <;> rfl

theorem p38 (v10 : FVec Ideal S256x2048 .f32) (S : S256x1.Idx → St) :
    k0_pay38 (F := Ideal) v10 (fun i => (S i).flo) (fun i => (S i).fhi) (fun i => (S i).above) (fun i => num (S i)) = fun i => (next (row v10 i) (S i)).above := by
  simp only [k0_pay38, p31 v10 S, p33 v10 S] <;> rfl

theorem p39 (v10 : FVec Ideal S256x2048 .f32) (S : S256x1.Idx → St) :
    k0_pay39 (F := Ideal) v10 (fun i => (S i).flo) (fun i => (S i).fhi) (fun i => num (S i)) = fun i => (next (row v10 i) (S i)).side := by
  simp only [k0_pay39, p33 v10 S] <;> rfl

theorem p40 (v10 : FVec Ideal S256x2048 .f32) (S : S256x1.Idx → St) :
    k0_pay40 (F := Ideal) v10 (fun i => (S i).lo) (fun i => (S i).flo) (fun i => (S i).hi) (fun i => (S i).fhi) (fun i => (S i).side) (fun i => num (S i)) = fun i => guess (next (row v10 i) (S i)) := by
  simp only [k0_pay40, p34 v10 S, p35 v10 S, p36 v10 S, p37 v10 S] <;> rfl

theorem p41 (v10 : FVec Ideal S256x2048 .f32) (S : S256x1.Idx → St) :
    k0_pay41 (F := Ideal) v10 (fun i => (S i).lo) (fun i => (S i).flo) (fun i => (S i).hi) (fun i => (S i).fhi) (fun i => (S i).side) (fun i => num (S i)) = fun i => count (row v10 i) (next (row v10 i) (S i)) := by
  rw [show k0_pay41 (F := Ideal) v10 (fun i => (S i).lo) (fun i => (S i).flo) (fun i => (S i).hi) (fun i => (S i).fhi) (fun i => (S i).side) (fun i => num (S i)) = countCol v10 (k0_pay40 (F := Ideal) v10 (fun i => (S i).lo) (fun i => (S i).flo) (fun i => (S i).hi) (fun i => (S i).fhi) (fun i => (S i).side) (fun i => num (S i))) from rfl, p40 v10 S, countCol_eq]
  rfl

theorem p42 (v10 : FVec Ideal S256x2048 .f32) (S : S256x1.Idx → St) :
    k0_pay42 (F := Ideal) v10 (fun i => (S i).lo) (fun i => (S i).flo) (fun i => (S i).hi) (fun i => (S i).fhi) (fun i => (S i).side) (fun i => num (S i)) = fun i => excess (row v10 i) (next (row v10 i) (S i)) := by
  simp only [k0_pay42, p41 v10 S] <;> rfl

/-! ## The third step, and what the fourth looks at -/

theorem p44 (v10 : FVec Ideal S256x2048 .f32) (S : S256x1.Idx → St) :
    k0_pay44 (F := Ideal) (fun i => excess (row v10 i) (S i)) (k0_pay43 (F := Ideal)) = fun i => enough (row v10 i) (S i) := by
  rfl

theorem p45 (v10 : FVec Ideal S256x2048 .f32) (S : S256x1.Idx → St) :
    k0_pay45 (F := Ideal) (fun i => (S i).lo) (fun i => guess (S i)) (fun i => excess (row v10 i) (S i)) (k0_pay43 (F := Ideal)) = fun i => (next (row v10 i) (S i)).lo := by
  simp only [k0_pay45, p44 v10 S] <;> rfl

theorem p46 (v10 : FVec Ideal S256x2048 .f32) (S : S256x1.Idx → St) :
    k0_pay46 (F := Ideal) (fun i => (S i).flo) (fun i => (S i).side) (fun i => excess (row v10 i) (S i)) (k0_pay43 (F := Ideal)) = fun i => (next (row v10 i) (S i)).flo := by
  simp only [k0_pay46, p44 v10 S] <;> rfl

theorem p47 (v10 : FVec Ideal S256x2048 .f32) (S : S256x1.Idx → St) :
    k0_pay47 (F := Ideal) (fun i => (S i).hi) (fun i => guess (S i)) (fun i => excess (row v10 i) (S i)) (k0_pay43 (F := Ideal)) = fun i => (next (row v10 i) (S i)).hi := by
  simp only [k0_pay47, p44 v10 S] <;> rfl

theorem p48 (v10 : FVec Ideal S256x2048 .f32) (S : S256x1.Idx → St) :
    k0_pay48 (F := Ideal) (fun i => (S i).fhi) (fun i => (S i).side) (fun i => excess (row v10 i) (S i)) (k0_pay43 (F := Ideal)) = fun i => (next (row v10 i) (S i)).fhi := by
  simp only [k0_pay48, p44 v10 S] <;> rfl

theorem p49 (v10 : FVec Ideal S256x2048 .f32) (S : S256x1.Idx → St) :
    k0_pay49 (F := Ideal) (fun i => (S i).above) (fun i => count (row v10 i) (S i)) (fun i => excess (row v10 i) (S i)) (k0_pay43 (F := Ideal)) = fun i => (next (row v10 i) (S i)).above := by
  simp only [k0_pay49, p44 v10 S] <;> rfl

theorem p50 (v10 : FVec Ideal S256x2048 .f32) (S : S256x1.Idx → St) :
    k0_pay50 (F := Ideal) (fun i => excess (row v10 i) (S i)) (k0_pay43 (F := Ideal)) = fun i => (next (row v10 i) (S i)).side := by
  simp only [k0_pay50, p44 v10 S] <;> rfl

theorem p51 (v10 : FVec Ideal S256x2048 .f32) (S : S256x1.Idx → St) :
    k0_pay51 (F := Ideal) (fun i => (S i).lo) (fun i => (S i).flo) (fun i => (S i).hi) (fun i => (S i).fhi) (fun i => (S i).side) (fun i => guess (S i)) (fun i => excess (row v10 i) (S i)) (k0_pay43 (F := Ideal)) = fun i => guess (next (row v10 i) (S i)) := by
  simp only [k0_pay51, p45 v10 S, p46 v10 S, p47 v10 S, p48 v10 S] <;> rfl

theorem p52 (v10 : FVec Ideal S256x2048 .f32) (S : S256x1.Idx → St) :
    k0_pay52 (F := Ideal) v10 (fun i => (S i).lo) (fun i => (S i).flo) (fun i => (S i).hi) (fun i => (S i).fhi) (fun i => (S i).side) (fun i => guess (S i)) (fun i => excess (row v10 i) (S i)) (k0_pay43 (F := Ideal)) = fun i => count (row v10 i) (next (row v10 i) (S i)) := by
  rw [show k0_pay52 (F := Ideal) v10 (fun i => (S i).lo) (fun i => (S i).flo) (fun i => (S i).hi) (fun i => (S i).fhi) (fun i => (S i).side) (fun i => guess (S i)) (fun i => excess (row v10 i) (S i)) (k0_pay43 (F := Ideal)) = countCol v10 (k0_pay51 (F := Ideal) (fun i => (S i).lo) (fun i => (S i).flo) (fun i => (S i).hi) (fun i => (S i).fhi) (fun i => (S i).side) (fun i => guess (S i)) (fun i => excess (row v10 i) (S i)) (k0_pay43 (F := Ideal))) from rfl, p51 v10 S, countCol_eq]
  rfl

theorem p53 (v10 : FVec Ideal S256x2048 .f32) (S : S256x1.Idx → St) :
    k0_pay53 (F := Ideal) v10 (fun i => (S i).lo) (fun i => (S i).flo) (fun i => (S i).hi) (fun i => (S i).fhi) (fun i => (S i).side) (fun i => guess (S i)) (fun i => excess (row v10 i) (S i)) (k0_pay43 (F := Ideal)) = fun i => excess (row v10 i) (next (row v10 i) (S i)) := by
  simp only [k0_pay53, p52 v10 S] <;> rfl

theorem p54 (v10 : FVec Ideal S256x2048 .f32) (S : S256x1.Idx → St) :
    k0_pay54 (F := Ideal) v10 (fun i => (S i).lo) (fun i => (S i).flo) (fun i => (S i).hi) (fun i => (S i).fhi) (fun i => (S i).side) (fun i => guess (S i)) (fun i => excess (row v10 i) (S i)) (k0_pay43 (F := Ideal)) = fun i => enough (row v10 i) (next (row v10 i) (S i)) := by
  simp only [k0_pay54, p53 v10 S] <;> rfl

theorem p55 (v10 : FVec Ideal S256x2048 .f32) (S : S256x1.Idx → St) :
    k0_pay55 (F := Ideal) v10 (fun i => (S i).lo) (fun i => (S i).flo) (fun i => (S i).hi) (fun i => (S i).fhi) (fun i => (S i).side) (fun i => guess (S i)) (fun i => excess (row v10 i) (S i)) (k0_pay43 (F := Ideal)) = fun i => halvedHi (row v10 i) (next (row v10 i) (S i)) := by
  simp only [k0_pay55, p48 v10 S, p50 v10 S, p54 v10 S] <;> rfl

theorem p56 (v10 : FVec Ideal S256x2048 .f32) (S : S256x1.Idx → St) :
    k0_pay56 (F := Ideal) v10 (fun i => (S i).lo) (fun i => (S i).flo) (fun i => (S i).hi) (fun i => (S i).fhi) (fun i => (S i).side) (fun i => guess (S i)) (fun i => excess (row v10 i) (S i)) (k0_pay43 (F := Ideal)) = fun i => IntOp.xori (enough (row v10 i) (next (row v10 i) (S i))) 1#1 := by
  simp only [k0_pay56, p54 v10 S] <;> rfl

theorem p57 (v10 : FVec Ideal S256x2048 .f32) (S : S256x1.Idx → St) :
    k0_pay57 (F := Ideal) (fun i => excess (row v10 i) (S i)) (k0_pay43 (F := Ideal)) = fun i => wasHi (next (row v10 i) (S i)) := by
  simp only [k0_pay57, p50 v10 S] <;> rfl

/-! ## The fourth and fifth steps -/

theorem p58 (v10 : FVec Ideal S256x2048 .f32) (S : S256x1.Idx → St) :
    k0_pay58 (F := Ideal) (fun i => (S i).lo) (fun i => guess (S i)) (fun i => enough (row v10 i) (S i)) = fun i => (next (row v10 i) (S i)).lo := by
  rfl

theorem p59 (v10 : FVec Ideal S256x2048 .f32) (S : S256x1.Idx → St) :
    k0_pay59 (F := Ideal) (fun i => (S i).flo) (fun i => excess (row v10 i) (S i)) (fun i => enough (row v10 i) (S i)) (fun i => IntOp.xori (enough (row v10 i) (S i)) 1#1) (fun i => wasHi (S i)) = fun i => (next (row v10 i) (S i)).flo := by
  rfl

theorem p60 (v10 : FVec Ideal S256x2048 .f32) (S : S256x1.Idx → St) :
    k0_pay60 (F := Ideal) (fun i => (S i).hi) (fun i => guess (S i)) (fun i => enough (row v10 i) (S i)) = fun i => (next (row v10 i) (S i)).hi := by
  rfl

theorem p61 (v10 : FVec Ideal S256x2048 .f32) (S : S256x1.Idx → St) :
    k0_pay61 (F := Ideal) (fun i => excess (row v10 i) (S i)) (fun i => enough (row v10 i) (S i)) (fun i => halvedHi (row v10 i) (S i)) = fun i => (next (row v10 i) (S i)).fhi := by
  rfl

theorem p62 (v10 : FVec Ideal S256x2048 .f32) (S : S256x1.Idx → St) :
    k0_pay62 (F := Ideal) (fun i => enough (row v10 i) (S i)) = fun i => (next (row v10 i) (S i)).side := by
  rfl

theorem p63 (v10 : FVec Ideal S256x2048 .f32) (S : S256x1.Idx → St) :
    k0_pay63 (F := Ideal) (fun i => (S i).lo) (fun i => (S i).flo) (fun i => (S i).hi) (fun i => guess (S i)) (fun i => excess (row v10 i) (S i)) (fun i => enough (row v10 i) (S i)) (fun i => halvedHi (row v10 i) (S i)) (fun i => IntOp.xori (enough (row v10 i) (S i)) 1#1) (fun i => wasHi (S i)) = fun i => guess (next (row v10 i) (S i)) := by
  simp only [k0_pay63, p58 v10 S, p59 v10 S, p60 v10 S, p61 v10 S] <;> rfl

theorem p64 (v10 : FVec Ideal S256x2048 .f32) (S : S256x1.Idx → St) :
    k0_pay64 (F := Ideal) v10 (fun i => (S i).lo) (fun i => (S i).flo) (fun i => (S i).hi) (fun i => guess (S i)) (fun i => excess (row v10 i) (S i)) (fun i => enough (row v10 i) (S i)) (fun i => halvedHi (row v10 i) (S i)) (fun i => IntOp.xori (enough (row v10 i) (S i)) 1#1) (fun i => wasHi (S i)) = fun i => count (row v10 i) (next (row v10 i) (S i)) := by
  rw [show k0_pay64 (F := Ideal) v10 (fun i => (S i).lo) (fun i => (S i).flo) (fun i => (S i).hi) (fun i => guess (S i)) (fun i => excess (row v10 i) (S i)) (fun i => enough (row v10 i) (S i)) (fun i => halvedHi (row v10 i) (S i)) (fun i => IntOp.xori (enough (row v10 i) (S i)) 1#1) (fun i => wasHi (S i)) = countCol v10 (k0_pay63 (F := Ideal) (fun i => (S i).lo) (fun i => (S i).flo) (fun i => (S i).hi) (fun i => guess (S i)) (fun i => excess (row v10 i) (S i)) (fun i => enough (row v10 i) (S i)) (fun i => halvedHi (row v10 i) (S i)) (fun i => IntOp.xori (enough (row v10 i) (S i)) 1#1) (fun i => wasHi (S i))) from rfl, p63 v10 S, countCol_eq]
  rfl

theorem p65 (v10 : FVec Ideal S256x2048 .f32) (S : S256x1.Idx → St) :
    k0_pay65 (F := Ideal) v10 (fun i => (S i).lo) (fun i => (S i).flo) (fun i => (S i).hi) (fun i => guess (S i)) (fun i => excess (row v10 i) (S i)) (fun i => enough (row v10 i) (S i)) (fun i => halvedHi (row v10 i) (S i)) (fun i => IntOp.xori (enough (row v10 i) (S i)) 1#1) (fun i => wasHi (S i)) = fun i => excess (row v10 i) (next (row v10 i) (S i)) := by
  simp only [k0_pay65, p64 v10 S] <;> rfl

theorem p66 (v10 : FVec Ideal S256x2048 .f32) (S : S256x1.Idx → St) :
    k0_pay66 (F := Ideal) v10 (fun i => (S i).lo) (fun i => (S i).flo) (fun i => (S i).hi) (fun i => guess (S i)) (fun i => excess (row v10 i) (S i)) (fun i => enough (row v10 i) (S i)) (fun i => halvedHi (row v10 i) (S i)) (fun i => IntOp.xori (enough (row v10 i) (S i)) 1#1) (fun i => wasHi (S i)) = fun i => enough (row v10 i) (next (row v10 i) (S i)) := by
  simp only [k0_pay66, p65 v10 S] <;> rfl

theorem p67 (v10 : FVec Ideal S256x2048 .f32) (S : S256x1.Idx → St) :
    k0_pay67 (F := Ideal) v10 (fun i => (S i).lo) (fun i => (S i).flo) (fun i => (S i).hi) (fun i => guess (S i)) (fun i => excess (row v10 i) (S i)) (fun i => enough (row v10 i) (S i)) (fun i => halvedHi (row v10 i) (S i)) (fun i => IntOp.xori (enough (row v10 i) (S i)) 1#1) (fun i => wasHi (S i)) = fun i => (next (row v10 i) (next (row v10 i) (S i))).lo := by
  simp only [k0_pay67, p58 v10 S, p63 v10 S, p66 v10 S] <;> rfl

theorem p68 (v10 : FVec Ideal S256x2048 .f32) (S : S256x1.Idx → St) :
    k0_pay68 (F := Ideal) v10 (fun i => (S i).lo) (fun i => (S i).flo) (fun i => (S i).hi) (fun i => guess (S i)) (fun i => excess (row v10 i) (S i)) (fun i => enough (row v10 i) (S i)) (fun i => halvedHi (row v10 i) (S i)) (fun i => IntOp.xori (enough (row v10 i) (S i)) 1#1) (fun i => wasHi (S i)) = fun i => (next (row v10 i) (next (row v10 i) (S i))).flo := by
  simp only [k0_pay68, p59 v10 S, p62 v10 S, p65 v10 S, p66 v10 S] <;> rfl

theorem p69 (v10 : FVec Ideal S256x2048 .f32) (S : S256x1.Idx → St) :
    k0_pay69 (F := Ideal) v10 (fun i => (S i).lo) (fun i => (S i).flo) (fun i => (S i).hi) (fun i => guess (S i)) (fun i => excess (row v10 i) (S i)) (fun i => enough (row v10 i) (S i)) (fun i => halvedHi (row v10 i) (S i)) (fun i => IntOp.xori (enough (row v10 i) (S i)) 1#1) (fun i => wasHi (S i)) = fun i => (next (row v10 i) (next (row v10 i) (S i))).hi := by
  simp only [k0_pay69, p60 v10 S, p63 v10 S, p66 v10 S] <;> rfl

theorem p70 (v10 : FVec Ideal S256x2048 .f32) (S : S256x1.Idx → St) :
    k0_pay70 (F := Ideal) v10 (fun i => (S i).lo) (fun i => (S i).flo) (fun i => (S i).hi) (fun i => guess (S i)) (fun i => excess (row v10 i) (S i)) (fun i => enough (row v10 i) (S i)) (fun i => halvedHi (row v10 i) (S i)) (fun i => IntOp.xori (enough (row v10 i) (S i)) 1#1) (fun i => wasHi (S i)) = fun i => (next (row v10 i) (next (row v10 i) (S i))).fhi := by
  simp only [k0_pay70, p61 v10 S, p62 v10 S, p65 v10 S, p66 v10 S] <;> rfl

theorem p71 (v10 : FVec Ideal S256x2048 .f32) (S : S256x1.Idx → St) :
    k0_pay71 (F := Ideal) v10 (fun i => (S i).lo) (fun i => (S i).flo) (fun i => (S i).hi) (fun i => (S i).above) (fun i => guess (S i)) (fun i => count (row v10 i) (S i)) (fun i => excess (row v10 i) (S i)) (fun i => enough (row v10 i) (S i)) (fun i => halvedHi (row v10 i) (S i)) (fun i => IntOp.xori (enough (row v10 i) (S i)) 1#1) (fun i => wasHi (S i)) = fun i => (next (row v10 i) (next (row v10 i) (S i))).above := by
  simp only [k0_pay71, p64 v10 S, p66 v10 S] <;> rfl

/-! ## The sixth step, and what the seventh looks at -/

theorem p74 (v10 : FVec Ideal S256x2048 .f32) (S : S256x1.Idx → St) :
    k0_pay74 (F := Ideal) (fun i => (S i).lo) (fun i => (S i).flo) (fun i => (S i).hi) (fun i => (S i).fhi) = fun i => guess (S i) := by
  rfl

theorem p75 (v10 : FVec Ideal S256x2048 .f32) (S : S256x1.Idx → St) :
    k0_pay75 (F := Ideal) v10 (fun i => (S i).lo) (fun i => (S i).flo) (fun i => (S i).hi) (fun i => (S i).fhi) = fun i => count (row v10 i) (S i) := by
  rw [show k0_pay75 (F := Ideal) v10 (fun i => (S i).lo) (fun i => (S i).flo) (fun i => (S i).hi) (fun i => (S i).fhi) = countCol v10 (k0_pay74 (F := Ideal) (fun i => (S i).lo) (fun i => (S i).flo) (fun i => (S i).hi) (fun i => (S i).fhi)) from rfl, p74 v10 S, countCol_eq]
  rfl

theorem p76 (v10 : FVec Ideal S256x2048 .f32) (S : S256x1.Idx → St) :
    k0_pay76 (F := Ideal) v10 (fun i => (S i).lo) (fun i => (S i).flo) (fun i => (S i).hi) (fun i => (S i).fhi) = fun i => excess (row v10 i) (S i) := by
  simp only [k0_pay76, p75 v10 S] <;> rfl

theorem p77 (v10 : FVec Ideal S256x2048 .f32) (S : S256x1.Idx → St) :
    k0_pay77 (F := Ideal) v10 (fun i => (S i).lo) (fun i => (S i).flo) (fun i => (S i).hi) (fun i => (S i).fhi) = fun i => enough (row v10 i) (S i) := by
  simp only [k0_pay77, p76 v10 S] <;> rfl

theorem p78 (v10 : FVec Ideal S256x2048 .f32) (S : S256x1.Idx → St) :
    k0_pay78 (F := Ideal) v10 (fun i => (S i).lo) (fun i => (S i).flo) (fun i => (S i).hi) (fun i => (S i).fhi) = fun i => (next (row v10 i) (S i)).lo := by
  simp only [k0_pay78, p74 v10 S, p77 v10 S] <;> rfl

theorem p79 (v10 : FVec Ideal S256x2048 .f32) (S : S256x1.Idx → St) :
    k0_pay79 (F := Ideal) v10 (fun i => (S i).lo) (fun i => (S i).flo) (fun i => (S i).hi) (fun i => (S i).fhi) = fun i => (next (row v10 i) (S i)).hi := by
  simp only [k0_pay79, p74 v10 S, p77 v10 S] <;> rfl

theorem p80 (v10 : FVec Ideal S256x2048 .f32) (S : S256x1.Idx → St) :
    k0_pay80 (F := Ideal) v10 (fun i => (S i).lo) (fun i => (S i).flo) (fun i => (S i).hi) (fun i => (S i).fhi) (fun i => (S i).above) = fun i => (next (row v10 i) (S i)).above := by
  simp only [k0_pay80, p75 v10 S, p77 v10 S] <;> rfl

theorem p81 (v10 : FVec Ideal S256x2048 .f32) (S : S256x1.Idx → St) (e : IVec S256x1 1) (h : ∀ i, Scalar.select (e i) (lit 0x3F800000#32) (lit 0xBF800000#32) = (S i).side) :
    k0_pay81 (F := Ideal) v10 e (fun i => (S i).lo) (fun i => (S i).flo) (fun i => (S i).hi) (fun i => (S i).fhi) (k0_pay72 (F := Ideal)) (k0_pay73 (F := Ideal)) = fun i => guess (next (row v10 i) (S i)) := by
  have hs : (select e (k0_pay72 (F := Ideal)) (k0_pay73 (F := Ideal))) = fun i => (S i).side := funext h
  simp only [k0_pay81, hs, p76 v10 S, p77 v10 S, p78 v10 S, p79 v10 S] <;> rfl

theorem p82 (v10 : FVec Ideal S256x2048 .f32) (S : S256x1.Idx → St) (e : IVec S256x1 1) (h : ∀ i, Scalar.select (e i) (lit 0x3F800000#32) (lit 0xBF800000#32) = (S i).side) :
    k0_pay82 (F := Ideal) v10 e (fun i => (S i).lo) (fun i => (S i).flo) (fun i => (S i).hi) (fun i => (S i).fhi) (k0_pay72 (F := Ideal)) (k0_pay73 (F := Ideal)) = fun i => count (row v10 i) (next (row v10 i) (S i)) := by
  rw [show k0_pay82 (F := Ideal) v10 e (fun i => (S i).lo) (fun i => (S i).flo) (fun i => (S i).hi) (fun i => (S i).fhi) (k0_pay72 (F := Ideal)) (k0_pay73 (F := Ideal)) = countCol v10 (k0_pay81 (F := Ideal) v10 e (fun i => (S i).lo) (fun i => (S i).flo) (fun i => (S i).hi) (fun i => (S i).fhi) (k0_pay72 (F := Ideal)) (k0_pay73 (F := Ideal))) from rfl, p81 v10 S e h, countCol_eq]
  rfl

theorem p83 (v10 : FVec Ideal S256x2048 .f32) (S : S256x1.Idx → St) (e : IVec S256x1 1) (h : ∀ i, Scalar.select (e i) (lit 0x3F800000#32) (lit 0xBF800000#32) = (S i).side) :
    k0_pay83 (F := Ideal) v10 e (fun i => (S i).lo) (fun i => (S i).flo) (fun i => (S i).hi) (fun i => (S i).fhi) (k0_pay72 (F := Ideal)) (k0_pay73 (F := Ideal)) = fun i => enough (row v10 i) (next (row v10 i) (S i)) := by
  simp only [k0_pay83, p82 v10 S e h] <;> rfl

end Cert.KernelIdeal.Row
-- ==== Proof.KernelTile.lean ====
module

public import proofs.«01_k».proof.Proof.KernelRow

@[expose] public section

set_option maxRecDepth 16384

noncomputable section

namespace Cert.KernelIdeal.Row

open Cert.KernelIdeal Cert.KernelIdeal.Gen Cert.KernelIdeal.Body Cert.Search
open Idealize.ShloMosaic

/-! ## The seventh step and the threshold -/

section Late

variable (v10 : FVec Ideal S256x2048 .f32) (S : S256x1.Idx → St)

/-- The sixth step reads which end moved last off the bit of the step before. -/
theorem p81' : k0_pay81 (F := Ideal) v10 (fun i => enough (row v10 i) (S i)) (fun i => (next (row v10 i) (S i)).lo) (fun i => (next (row v10 i) (S i)).flo) (fun i => (next (row v10 i) (S i)).hi) (fun i => (next (row v10 i) (S i)).fhi) k0_pay72 k0_pay73
    = fun i => guess (next (row v10 i) (next (row v10 i) (S i))) :=
  p81 v10 (fun i => next (row v10 i) (S i)) _ fun _ => rfl

theorem p82' : k0_pay82 (F := Ideal) v10 (fun i => enough (row v10 i) (S i)) (fun i => (next (row v10 i) (S i)).lo) (fun i => (next (row v10 i) (S i)).flo) (fun i => (next (row v10 i) (S i)).hi) (fun i => (next (row v10 i) (S i)).fhi) k0_pay72 k0_pay73
    = fun i => Search.count (row v10 i) (next (row v10 i) (next (row v10 i) (S i))) :=
  p82 v10 (fun i => next (row v10 i) (S i)) _ fun _ => rfl

theorem p83' : k0_pay83 (F := Ideal) v10 (fun i => enough (row v10 i) (S i)) (fun i => (next (row v10 i) (S i)).lo) (fun i => (next (row v10 i) (S i)).flo) (fun i => (next (row v10 i) (S i)).hi) (fun i => (next (row v10 i) (S i)).fhi) k0_pay72 k0_pay73
    = fun i => enough (row v10 i) (next (row v10 i) (next (row v10 i) (S i))) :=
  p83 v10 (fun i => next (row v10 i) (S i)) _ fun _ => rfl

end Late

/-- The threshold of every row from the bracket's lower and upper end and the count at the latter. -/
def snapCol (v10 : FVec Ideal S256x2048 .f32) (lo hi above : FVec Ideal S256x1 .f32) : FVec Ideal S256x1 .f32 :=
  let missing := subf (broadcast S256x1 (Scalar.ofBits .f32 0x434C0000#32)) above
  select (cmpf .oeq missing (broadcast S256x1 (Scalar.ofBits .f32 0x40000000#32))) (belowCol v10 (belowCol v10 hi))
    (select (cmpf .oeq missing (broadcast S256x1 (Scalar.ofBits .f32 0x3F800000#32))) (belowCol v10 hi) lo)

theorem snapCol_eq (v10 : FVec Ideal S256x2048 .f32) (S : S256x1.Idx → St) :
    snapCol v10 (fun i => (S i).lo) (fun i => (S i).hi) (fun i => (S i).above) = fun i => snap (row v10 i) (S i) := by
  simp only [snapCol, belowCol_eq] <;> rfl

/-- The weights of the entries that reach the threshold, before they are divided by their sum. -/
def weights (v10 v13 : FVec Ideal S256x2048 .f32) (t : FVec Ideal S256x1 .f32) : FVec Ideal S256x2048 .f32 :=
  select (cmpf .oge v10 (broadcastTo S256x2048 t broadcasts_S256x1_S256x2048)) (exp v13) (broadcast S256x2048 (Scalar.ofBits .f32 0x00000000#32))

/-- The block those weights make of the values. -/
def finish (w : FVec Ideal S256x2048 .f32) (vb : FVec Ideal S2048x1024 .bf16) : FVec Ideal S256x1024 .f32 :=
  matmul dot_S256x2048_S2048x1024_S256x1024_1_0_0_1_n_n none
    (truncf .bf16 (mulf w (broadcastTo S256x2048 (divf (broadcast S256x1 (Scalar.ofBits .f32 0x3F800000#32))
      (shapeCast S256x1 (multiReduction .add [1] S256 w 0x00000000#32 reduces_S256x2048_S256 (.inl rfl) rfl) shapeCasts_S256_S256x1)) broadcasts_S256x1_S256x2048)) bitsLt_bf16_f32)
    vb (constant S256x1024 .f32 0x00000000#32)

theorem p84 (v10 v13 : FVec Ideal S256x2048 .f32) (v245 v247 v249 v254 v260 : FVec Ideal S256x1 .f32) (v264 : IVec S256x1 1) (vb : FVec Ideal S2048x1024 .bf16) :
    k0_pay84 (F := Ideal) v10 v13 v245 v247 v249 v254 v260 v264 vb
      = finish (weights v10 v13 (snapCol v10 (select v264 v254 v245) (select v264 v247 v254) (select v264 v249 v260))) vb := rfl

/-- The whole block: the weights at the threshold each row's search ends with, from the row's mean and
    deviation. -/
theorem tile_eq (x0 : FVec Ideal S1x256x1024 .f32) (x1 : FVec Ideal S1x2048x1024 .f32) (x3 : FVec Ideal S1024x32 .f32) (kp : FVec Ideal S2048x32 .f32) (mm : FVec Ideal S32x32 .f32) (kb : FVec Ideal S1x32 .f32) (vb : FVec Ideal S2048x1024 .bf16) :
    tile (F := Ideal) x0 x1 x3 kp mm kb vb
      = k0_pay1 (F := Ideal) (finish (weights (k0_pay9 (F := Ideal) x3 x0 kp) (k0_pay10 (F := Ideal) x0 x1) fun i =>
          thr (row (k0_pay9 (F := Ideal) x3 x0 kp) i) (k0_pay11 (F := Ideal) x3 x0 kb i) (k0_pay12 (F := Ideal) x3 x0 mm kb i)) vb) := by
  have hsel : ∀ (v10 : FVec Ideal S256x2048 .f32) (S : S256x1.Idx → St),
      snapCol v10 (select (fun i => enough (row v10 i) (S i)) (fun i => guess (S i)) (fun i => (S i).lo))
        (select (fun i => enough (row v10 i) (S i)) (fun i => (S i).hi) (fun i => guess (S i)))
        (select (fun i => enough (row v10 i) (S i)) (fun i => (S i).above) (fun i => Search.count (row v10 i) (S i)))
      = fun i => snap (row v10 i) (next (row v10 i) (S i)) :=
    fun v10 S => snapCol_eq v10 fun i => next (row v10 i) (S i)
  unfold tile
  simp only [p23, p24, p25, p26, p27, p28, p29, p34, p35, p36, p37, p38, p39, p40, p41, p42, p45, p46, p47, p49, p51, p52, p53, p54, p55, p56, p57,
    p66, p67, p68, p69, p70, p71, p78, p79, p80, p81', p82', p83', p84, hsel]
  rfl

/-- An entry of the block: the values weighed by the exponentials of the scores that reach the threshold. -/
theorem finish_apply (v10 v13 : FVec Ideal S256x2048 .f32) (t : FVec Ideal S256x1 .f32) (vb : FVec Ideal S2048x1024 .bf16) (p : Fin 256) (e : Fin 1024) :
    finish (weights v10 v13 t) vb (ix2 p e)
      = ∑ n : Fin 2048, ((if t (ix2 p 0) ≤ v10 (ix2 p n) then Ideal.exp (v13 (ix2 p n)) else 0)
          * Ideal.div 1 (∑ n : Fin 2048, if t (ix2 p 0) ≤ v10 (ix2 p n) then Ideal.exp (v13 (ix2 p n)) else 0)) * vb (ix2 n e) := by
  pointwise [finish, weights]

end Cert.KernelIdeal.Row
-- ==== Proof.Extended.lean ====
module

public import proofs.«01_k».proof.Proof.Lits

@[expose] public section

noncomputable section

/-! # Sums and products of extended reals

Plus and minus infinity add up to minus infinity, so a sum does not always pass through a product.
It does when the factor is a real number that is not negative, and when no product is minus infinity. -/

namespace Cert.Search

variable {ι : Type}

theorem sum_eq_bot (t : Finset ι) (f : ι → EReal) : ∑ i ∈ t, f i = ⊥ ↔ ∃ i ∈ t, f i = ⊥ := by
  classical
  induction t using Finset.induction_on with
  | empty => simp
  | insert a t ha ih => rw [Finset.sum_insert ha, EReal.add_eq_bot_iff, ih, Finset.exists_mem_insert]

theorem sum_eq_top (t : Finset ι) (f : ι → EReal) (hb : ∀ i ∈ t, f i ≠ ⊥) (h : ∃ i ∈ t, f i = ⊤) : ∑ i ∈ t, f i = ⊤ := by
  classical
  obtain ⟨a, ha, e⟩ := h
  rw [← Finset.add_sum_erase t f ha, e]
  exact EReal.top_add_of_ne_bot fun hs => by
    obtain ⟨i, hi, hib⟩ := (sum_eq_bot _ _).mp hs
    exact hb i (Finset.mem_of_mem_erase hi) hib

theorem sum_ne_top (t : Finset ι) (f : ι → EReal) (h : ∀ i ∈ t, f i ≠ ⊤) : ∑ i ∈ t, f i ≠ ⊤ := by
  classical
  induction t using Finset.induction_on with
  | empty => simp
  | insert a t ha ih =>
    rw [Finset.sum_insert ha]
    exact EReal.add_ne_top (h a (Finset.mem_insert_self a t)) (ih fun i hi => h i (Finset.mem_insert_of_mem hi))

/-- A real factor that is not negative passes through a sum. -/
theorem mul_sum_real (t : Finset ι) (f : ι → EReal) (c : ℝ) (hc : 0 ≤ c) : (c : EReal) * ∑ i ∈ t, f i = ∑ i ∈ t, (c : EReal) * f i := by
  classical
  induction t using Finset.induction_on with
  | empty => simp
  | insert a t ha ih =>
    rw [Finset.sum_insert ha, Finset.sum_insert ha, EReal.left_distrib_of_nonneg_of_ne_top (EReal.coe_nonneg.mpr hc) (EReal.coe_ne_top c), ih]

theorem sum_mul_real (t : Finset ι) (f : ι → EReal) (c : ℝ) (hc : 0 ≤ c) : (∑ i ∈ t, f i) * (c : EReal) = ∑ i ∈ t, f i * (c : EReal) := by
  rw [mul_comm, mul_sum_real t f c hc]
  exact Finset.sum_congr rfl fun i _ => mul_comm _ _

/-- Plus infinity passes through a sum of terms that are not negative. -/
theorem top_mul_sum (t : Finset ι) (f : ι → EReal) (h : ∀ i ∈ t, 0 ≤ f i) : ⊤ * ∑ i ∈ t, f i = ∑ i ∈ t, ⊤ * f i := by
  classical
  induction t using Finset.induction_on with
  | empty => simp
  | insert a t ha ih =>
    have h' : ∀ i ∈ t, 0 ≤ f i := fun i hi => h i (Finset.mem_insert_of_mem hi)
    rw [Finset.sum_insert ha, Finset.sum_insert ha,
      EReal.left_distrib_of_nonneg (h a (Finset.mem_insert_self a t)) (Finset.sum_nonneg h'), ih h']

/-- The opposite of a sum that has no plus infinity among its terms. -/
theorem neg_sum (t : Finset ι) (f : ι → EReal) (h : ∀ i ∈ t, f i ≠ ⊤) : -∑ i ∈ t, f i = ∑ i ∈ t, -f i := by
  classical
  induction t using Finset.induction_on with
  | empty => simp
  | insert a t ha ih =>
    have h' : ∀ i ∈ t, f i ≠ ⊤ := fun i hi => h i (Finset.mem_insert_of_mem hi)
    rw [Finset.sum_insert ha, Finset.sum_insert ha, ← ih h',
      EReal.neg_add (Or.inr (sum_ne_top t f h')) (Or.inl (h a (Finset.mem_insert_self a t))), sub_eq_add_neg]

theorem mul_sum_of_pos (t : Finset ι) (f : ι → EReal) (a : EReal) (ha : 0 ≤ a) (h : ∀ i ∈ t, a * f i ≠ ⊥) : a * ∑ i ∈ t, f i = ∑ i ∈ t, a * f i := by
  induction a with
  | bot => exact absurd ha (by simp)
  | coe c => exact mul_sum_real t f c (EReal.coe_nonneg.mp ha)
  | top => exact top_mul_sum t f fun i hi => not_lt.mp fun hn => h i hi (EReal.top_mul_of_neg hn)

/-- A factor passes through a sum when no product is minus infinity. -/
theorem mul_sum (t : Finset ι) (f : ι → EReal) (a : EReal) (h : ∀ i ∈ t, a * f i ≠ ⊥) : a * ∑ i ∈ t, f i = ∑ i ∈ t, a * f i := by
  rcases le_or_gt 0 a with ha | ha
  · exact mul_sum_of_pos t f a ha h
  · have hf : ∀ i ∈ t, f i ≠ ⊤ := fun i hi e => h i hi (by rw [e]; exact EReal.mul_top_of_neg ha)
    have hn : ∀ i ∈ t, -a * -f i ≠ ⊥ := fun i hi => by rw [neg_mul_neg]; exact h i hi
    have e := mul_sum_of_pos t (fun i => -f i) (-a) (EReal.neg_nonneg.mpr ha.le) hn
    rw [← neg_sum t f hf] at e
    simpa only [neg_mul_neg] using e

theorem mul_self_nonneg' (x : EReal) : 0 ≤ x * x := by
  rcases le_or_gt 0 x with h | h
  · exact mul_nonneg h h
  · have e : -x * -x = x * x := neg_mul_neg x x
    rw [← e]
    exact mul_nonneg (EReal.neg_nonneg.mpr h.le) (EReal.neg_nonneg.mpr h.le)

open Idealize.ShloMosaic in
theorem sqrt_nonneg (x : EReal) (h : 0 ≤ x) : 0 ≤ Ideal.sqrt x := by
  induction x with
  | bot => exact absurd h (by simp)
  | coe c =>
    rw [Ideal.sqrt_coe, if_neg (not_lt.mpr (EReal.coe_nonneg.mp h))]
    exact EReal.coe_nonneg.mpr (Real.sqrt_nonneg c)
  | top => rw [Ideal.sqrt_top]; exact le_top

end Cert.Search
-- ==== Proof.Moments.lean ====
module

public import proofs.«01_k».proof.Proof.Extended

@[expose] public section

set_option maxRecDepth 16384

noncomputable section

/-! # The mean and the deviation of a row of similarities

The kernel works them out from the mean and the second moments of the projected keys; the mask from the
row itself. Where no similarity is minus infinity the means are the same number, and where all are real so
are the deviations, whatever the projected query and keys. -/

namespace Cert.Search

open Idealize.ShloMosaic

section Definitions

/-- The mean of a row, -/
def mean (s : Fin 2048 → EReal) : EReal := Ideal.div (∑ n, s n) (lit 0x45000000#32)
/-- and its deviation. -/
def dev (s : Fin 2048 → EReal) : EReal := Ideal.sqrt (Ideal.div (∑ n, (s n - mean s) * (s n - mean s)) (lit 0x45000000#32))

variable (a : Fin 32 → EReal) (b : Fin 2048 → Fin 32 → EReal)

/-- The similarities of a projected query and the projected keys, -/
def simOf (n : Fin 2048) : EReal := ∑ d, a d * b n d
/-- their mean, from the mean of the keys, -/
def meanOf : EReal := ∑ d, a d * Ideal.div (∑ n, b n d) (lit 0x45000000#32)
/-- and their deviation, from the second moments of the keys. -/
def devOf : EReal :=
  Ideal.sqrt (max (∑ d, (∑ c, a c * ((∑ n, b n c * b n d) * lit 0x3A000000#32)) * a d - meanOf a b * meanOf a b) 0)

variable (q : Fin 1024 → EReal) (k : Fin 2048 → Fin 1024 → EReal) (p : Fin 1024 → Fin 32 → EReal)

/-- The projection of the scaled query, -/
def projQ (d : Fin 32) : EReal := ∑ e, q e * lit 0x3D000000#32 * p e d
/-- and of a key. -/
def projK (n : Fin 2048) (d : Fin 32) : EReal := ∑ e, k n e * p e d
/-- The row of similarities as the kernel computes it, -/
def simK (n : Fin 2048) : EReal := simOf (projQ q p) (projK k p) n
/-- its mean, -/
def meanK : EReal := meanOf (projQ q p) (projK k p)
/-- and its deviation. -/
def devK : EReal := devOf (projQ q p) (projK k p)
/-- The row as the mask computes it. -/
def simM (n : Fin 2048) : EReal := Ideal.div (∑ d, (∑ e, q e * p e d) * projK k p n d) (lit 0x42000000#32)

end Definitions

/-! ## The scaling -/

/-- It does not matter whether the query is scaled or the similarity. -/
theorem simK_eq (q : Fin 1024 → EReal) (k : Fin 2048 → Fin 1024 → EReal) (p : Fin 1024 → Fin 32 → EReal) (n : Fin 2048) :
    simK q k p n = simM q k p n := by
  have h : ∀ d, projQ q p d = (∑ e, q e * p e d) * ((1 / 32 : ℝ) : EReal) := fun d => by
    rw [sum_mul_real _ _ _ (by norm_num), projQ, lit_inv32]
    exact Finset.sum_congr rfl fun e _ => mul_right_comm _ _ _
  rw [simK, simOf, simM, lit_32, Ideal.div_coe (by norm_num), sum_mul_real _ _ _ (by norm_num)]
  refine Finset.sum_congr rfl fun d _ => ?_
  rw [h, mul_right_comm]

/-! ## Real numbers -/

section Real

variable (x : Fin 32 → ℝ) (y : Fin 2048 → Fin 32 → ℝ)

def rSim (n : Fin 2048) : ℝ := ∑ d, x d * y n d
def rMean (s : Fin 2048 → ℝ) : ℝ := (∑ n, s n) * (1 / 2048)
def rVar (s : Fin 2048 → ℝ) : ℝ := (∑ n, (s n - rMean s) * (s n - rMean s)) * (1 / 2048)

theorem mean_coe (s : Fin 2048 → ℝ) : mean (fun n => (s n : EReal)) = (rMean s : EReal) := by
  rw [mean, ← coe_sum, div_2048]
  rfl

theorem rVar_nonneg (s : Fin 2048 → ℝ) : 0 ≤ rVar s :=
  mul_nonneg (Finset.sum_nonneg fun _ _ => mul_self_nonneg _) (by norm_num)

theorem sqrt_var (s : Fin 2048 → ℝ) : Ideal.sqrt (rVar s : EReal) = (Real.sqrt (rVar s) : EReal) := by
  rw [Ideal.sqrt_coe, if_neg (not_lt.mpr (rVar_nonneg s))]

theorem dev_coe (s : Fin 2048 → ℝ) : dev (fun n => (s n : EReal)) = (Real.sqrt (rVar s) : EReal) := by
  have h : (∑ n, ((s n : EReal) - (rMean s : EReal)) * ((s n : EReal) - (rMean s : EReal)))
      = ((∑ n, (s n - rMean s) * (s n - rMean s) : ℝ) : EReal) := by
    simp only [coe_sum, EReal.coe_mul, EReal.coe_sub]
  rw [dev, mean_coe, h, div_2048]
  exact sqrt_var s

/-- The mean of the row is the query against the mean key. -/
theorem rMean_eq : rMean (rSim x y) = ∑ d, x d * ((∑ n, y n d) * (1 / 2048)) := by
  simp only [rMean, rSim]
  rw [Finset.sum_comm, Finset.sum_mul]
  refine Finset.sum_congr rfl fun d _ => ?_
  rw [← Finset.mul_sum]
  ring

/-- The mean of the squares, from the second moments of the keys. -/
theorem squares_eq : ∑ d, (∑ c, x c * ((∑ n, y n c * y n d) * (1 / 2048))) * x d
    = (∑ n, rSim x y n * rSim x y n) * (1 / 2048) := by
  have h : ∀ n, rSim x y n * rSim x y n = ∑ d, ∑ c, x c * (y n c * y n d) * x d := by
    intro n
    simp only [rSim, Finset.sum_mul, Finset.mul_sum]
    rw [Finset.sum_comm]
    exact Finset.sum_congr rfl fun d _ => Finset.sum_congr rfl fun c _ => by ring
  simp only [h]
  rw [Finset.sum_comm, Finset.sum_mul]
  refine Finset.sum_congr rfl fun d _ => ?_
  rw [Finset.sum_comm, Finset.sum_mul, Finset.sum_mul]
  refine Finset.sum_congr rfl fun c _ => ?_
  simp only [Finset.sum_mul, Finset.mul_sum]
  exact Finset.sum_congr rfl fun n _ => by ring

/-- The mean square less the squared mean is the mean squared distance from the mean. -/
theorem rVar_eq (s : Fin 2048 → ℝ) : (∑ n, s n * s n) * (1 / 2048) - rMean s * rMean s = rVar s := by
  have h : ∑ n, (s n - rMean s) * (s n - rMean s) = ∑ n, s n * s n - 2 * rMean s * ∑ n, s n + 2048 * (rMean s * rMean s) := by
    have e : ∀ n, (s n - rMean s) * (s n - rMean s) = s n * s n - 2 * rMean s * s n + rMean s * rMean s := fun n => by ring
    simp only [e]
    rw [Finset.sum_add_distrib, Finset.sum_sub_distrib, ← Finset.mul_sum]
    simp
  have hm : ∑ n, s n = 2048 * rMean s := by rw [rMean]; ring
  rw [rVar, h, hm]
  ring

end Real

/-! ## Where every similarity is real

Then an infinite entry of the projected query meets only zeros among the keys, and an infinite entry of a
projected key only a zero of the query: real numbers can stand in for them. -/

/-- One column: the query's entry is zero, or the keys' entries are, or all of them are real. -/
def Column (a : EReal) (b : Fin 2048 → EReal) (x : ℝ) (y : Fin 2048 → ℝ) : Prop :=
  (a = 0 ∧ x = 0) ∨ ((∀ n, b n = 0) ∧ ∀ n, y n = 0) ∨ (a = x ∧ ∀ n, b n = y n)

theorem column (a : EReal) (b : Fin 2048 → EReal) (h : ∀ n, a * b n ≠ ⊥ ∧ a * b n ≠ ⊤) : ∃ x y, Column a b x y := by
  by_cases ha : a = 0
  · exact ⟨0, fun _ => 0, Or.inl ⟨ha, rfl⟩⟩
  by_cases hb : ∀ n, b n = 0
  · exact ⟨0, fun _ => 0, Or.inr (Or.inl ⟨hb, fun _ => rfl⟩)⟩
  obtain ⟨m, hm⟩ := not_forall.mp hb
  have infinite : ∀ u w : EReal, u ≠ 0 → w ≠ 0 → u * w ≠ ⊥ → u * w ≠ ⊤ → u ≠ ⊤ ∧ u ≠ ⊥ := by
    intro u w hu hw h1 h2
    rcases lt_or_gt_of_ne hw with hn | hp
    · exact ⟨fun e => h1 (by rw [e]; exact EReal.top_mul_of_neg hn), fun e => h2 (by rw [e]; exact EReal.bot_mul_of_neg hn)⟩
    · exact ⟨fun e => h2 (by rw [e]; exact EReal.top_mul_of_pos hp), fun e => h1 (by rw [e]; exact EReal.bot_mul_of_pos hp)⟩
  obtain ⟨at', ab⟩ := infinite a (b m) ha hm (h m).1 (h m).2
  refine ⟨a.toReal, fun n => (b n).toReal, Or.inr (Or.inr ⟨(EReal.coe_toReal at' ab).symm, fun n => ?_⟩)⟩
  by_cases hn : b n = 0
  · simp [hn]
  · obtain ⟨bt, bb⟩ := infinite (b n) a hn ha (by rw [mul_comm]; exact (h n).1) (by rw [mul_comm]; exact (h n).2)
    exact (EReal.coe_toReal bt bb).symm

section Columns

variable {a : Fin 32 → EReal} {b : Fin 2048 → Fin 32 → EReal} {x : Fin 32 → ℝ} {y : Fin 2048 → Fin 32 → ℝ}
variable (h : ∀ d, Column (a d) (fun n => b n d) (x d) (fun n => y n d))

include h

theorem simOf_coe (n : Fin 2048) : simOf a b n = (rSim x y n : EReal) := by
  rw [simOf, rSim, coe_sum]
  refine Finset.sum_congr rfl fun d _ => ?_
  rcases h d with ⟨ha, hx⟩ | ⟨hb, hy⟩ | ⟨ha, hb⟩
  · rw [ha, hx, zero_mul, zero_mul, EReal.coe_zero]
  · simp only [hb, hy, mul_zero, EReal.coe_zero]
  · simp only [ha, hb, EReal.coe_mul]

theorem meanOf_coe : meanOf a b = (rMean (rSim x y) : EReal) := by
  rw [rMean_eq, meanOf, coe_sum]
  refine Finset.sum_congr rfl fun d _ => ?_
  rcases h d with ⟨ha, hx⟩ | ⟨hb, hy⟩ | ⟨ha, hb⟩
  · rw [ha, hx, zero_mul, zero_mul, EReal.coe_zero]
  · simp only [hb, hy, Finset.sum_const_zero]
    rw [lit_2048, Ideal.div_coe (by norm_num), zero_mul, zero_mul, mul_zero, mul_zero, EReal.coe_zero]
  · simp only [ha, hb, ← coe_sum, div_2048, EReal.coe_mul]

theorem squareOf_coe (d : Fin 32) : (∑ c, a c * ((∑ n, b n c * b n d) * lit 0x3A000000#32)) * a d
    = (((∑ c, x c * ((∑ n, y n c * y n d) * (1 / 2048))) * x d : ℝ) : EReal) := by
  rcases h d with ⟨ha, hx⟩ | ⟨hb, hy⟩ | ⟨ha, hb⟩
  · rw [ha, hx, mul_zero, mul_zero, EReal.coe_zero]
  · simp only [hb, hy, mul_zero, Finset.sum_const_zero, zero_mul, EReal.coe_zero]
  · rw [ha, EReal.coe_mul, coe_sum]
    refine congrArg (fun u : EReal => u * (x d : EReal)) (Finset.sum_congr rfl fun c _ => ?_)
    rcases h c with ⟨hc, hx⟩ | ⟨hc, hy⟩ | ⟨hc, hy⟩
    · rw [hc, hx, zero_mul, zero_mul, EReal.coe_zero]
    · simp only [hc, hy, zero_mul, Finset.sum_const_zero, mul_zero, EReal.coe_zero]
    · simp only [hc, hy, hb, lit_inv2048, coe_sum, EReal.coe_mul]

theorem devOf_coe : devOf a b = (Real.sqrt (rVar (rSim x y)) : EReal) := by
  rw [devOf, meanOf_coe h]
  simp only [squareOf_coe h]
  rw [← coe_sum, ← EReal.coe_mul, ← EReal.coe_sub, squares_eq, rVar_eq, max_eq_left (EReal.coe_nonneg.mpr (rVar_nonneg _))]
  exact sqrt_var _

end Columns

section Agreement

variable (a : Fin 32 → EReal) (b : Fin 2048 → Fin 32 → EReal)

/-- The mean from the mean key is the mean of the row, unless a similarity is minus infinity. -/
theorem meanOf_eq (hb : ∀ n, simOf a b n ≠ ⊥) : meanOf a b = mean (simOf a b) := by
  have hn : ∀ n d, a d * b n d ≠ ⊥ := fun n d e => hb n ((sum_eq_bot _ _).mpr ⟨d, Finset.mem_univ d, e⟩)
  rw [mean, lit_2048, Ideal.div_coe (by norm_num)]
  simp only [simOf]
  rw [Finset.sum_comm, sum_mul_real _ _ _ (by norm_num), meanOf]
  refine Finset.sum_congr rfl fun d _ => ?_
  rw [lit_2048, Ideal.div_coe (by norm_num), ← mul_assoc, mul_sum _ _ _ fun n _ => hn n d]

theorem devOf_eq (hb : ∀ n, simOf a b n ≠ ⊥) (ht : ∀ n, simOf a b n ≠ ⊤) : devOf a b = dev (simOf a b) := by
  have hn : ∀ n d, a d * b n d ≠ ⊥ := fun n d e => hb n ((sum_eq_bot _ _).mpr ⟨d, Finset.mem_univ d, e⟩)
  have hp : ∀ n d, a d * b n d ≠ ⊤ := fun n d e => ht n (sum_eq_top _ _ (fun d _ => hn n d) ⟨d, Finset.mem_univ d, e⟩)
  choose x y h using fun d => column (a d) (fun n => b n d) fun n => ⟨hn n d, hp n d⟩
  have h' : ∀ d, Column (a d) (fun n => b n d) (x d) (fun n => (fun n d => y d n) n d) := h
  rw [devOf_coe h', show simOf a b = fun n => ((rSim x (fun n d => y d n) n : ℝ) : EReal) from funext fun n => simOf_coe h' n, dev_coe]

theorem devOf_nonneg : 0 ≤ devOf a b := sqrt_nonneg _ (le_max_right _ _)

theorem dev_nonneg (s : Fin 2048 → EReal) : 0 ≤ dev s := by
  refine sqrt_nonneg _ ?_
  rw [lit_2048, Ideal.div_coe (by norm_num)]
  exact mul_nonneg (Finset.sum_nonneg fun n _ => mul_self_nonneg' _) (EReal.coe_nonneg.mpr (by norm_num))

theorem mean_bot (s : Fin 2048 → EReal) (h : ∃ n, s n = ⊥) : mean s = ⊥ := by
  obtain ⟨n, e⟩ := h
  rw [mean, (sum_eq_bot _ _).mpr ⟨n, Finset.mem_univ n, e⟩, lit_2048, Ideal.div_coe (by norm_num)]
  exact EReal.bot_mul_coe_of_pos (by norm_num)

theorem mean_top (s : Fin 2048 → EReal) (hb : ∀ n, s n ≠ ⊥) (h : ∃ n, s n = ⊤) : mean s = ⊤ := by
  obtain ⟨n, e⟩ := h
  rw [mean, sum_eq_top _ _ (fun n _ => hb n) ⟨n, Finset.mem_univ n, e⟩, lit_2048, Ideal.div_coe (by norm_num)]
  exact EReal.top_mul_coe_of_pos (by norm_num)

theorem top_add_dev (c : ℝ) (hc : 0 ≤ c) (u : EReal) (hu : 0 ≤ u) : ⊤ + (c : EReal) * u = ⊤ :=
  EReal.top_add_of_ne_bot fun e => absurd (mul_nonneg (EReal.coe_nonneg.mpr hc) hu) (by rw [e]; simp)

/-- The kernel's threshold is the mask's, unless a similarity is minus infinity. -/
theorem thr_eq (hb : ∀ n, simOf a b n ≠ ⊥) : thr (simOf a b) (meanOf a b) (devOf a b) = thr (simOf a b) (mean (simOf a b)) (dev (simOf a b)) := by
  rw [meanOf_eq a b hb]
  by_cases ht : ∃ n, simOf a b n = ⊤
  · simp only [thr, mean_top _ hb ht, lit_near, lit_far]
    rw [top_add_dev _ (by norm_num) _ (devOf_nonneg a b), top_add_dev _ (by norm_num) _ (devOf_nonneg a b),
      top_add_dev _ (by norm_num) _ (dev_nonneg _), top_add_dev _ (by norm_num) _ (dev_nonneg _)]
  · rw [devOf_eq a b hb fun n e => ht ⟨n, e⟩]

end Agreement

end Cert.Search
-- ==== Proof.KernelRead.lean ====
module

public import proofs.«01_k».proof.Proof.KernelTile
public import proofs.«01_k».proof.Proof.Moments
public import proofs.«01_k».proof.Proof.Launch

@[expose] public section

set_option maxRecDepth 16384

noncomputable section

/-! # The kernel's output, entry by entry -/

namespace Cert.KernelIdeal.Row

open Cert.KernelIdeal Cert.KernelIdeal.Gen Cert.KernelIdeal.Body Cert.Search
open Idealize.ShloMosaic

variable (q k v : FVec Ideal S4x2048x1024 .f32) (pr : FVec Ideal S1024x32 .f32)

/-- A query's row, -/
abbrev qrow (b : Fin 4) (m : Fin 2048) : Fin 1024 → EReal := fun e => q (ix3 (n0 := 4) (n1 := 2048) (n2 := 1024) b m e)
/-- the keys of a batch, -/
abbrev krows (b : Fin 4) : Fin 2048 → Fin 1024 → EReal := fun n e => k (ix3 (n0 := 4) (n1 := 2048) (n2 := 1024) b n e)
/-- and the projection, as plain functions. -/
abbrev pmat : Fin 1024 → Fin 32 → EReal := fun e d => pr (ix2 (n0 := 1024) (n1 := 32) e d)

theorem at3_eq (b : Fin 4) (n : Fin 2048) (e : Fin 1024) : at3 b n e = ix3 (n0 := 4) (n1 := 2048) (n2 := 1024) b n e := by
  funext c
  match c with
  | ⟨0, _⟩ => rfl
  | ⟨1, _⟩ => rfl
  | ⟨2, _⟩ => rfl

theorem rows_at (b : Fin 4) (i : Fin 8) (m : Fin 256) (e : Fin 1024) :
    rows (F := Ideal) q b i (ix3 (n0 := 1) (n1 := 256) (n2 := 1024) 0 m e) = qrow q b (rowOf i m) e :=
  congrArg q (at3_eq b (rowOf i m) e)

theorem whole_at (b : Fin 4) (n : Fin 2048) (e : Fin 1024) :
    whole (F := Ideal) k b (ix3 (n0 := 1) (n1 := 2048) (n2 := 1024) 0 n e) = krows k b n e :=
  congrArg k (at3_eq b n e)

theorem pay2_at (b : Fin 4) (n : Fin 2048) (d : Fin 32) :
    k0_pay2 (F := Ideal) pr (whole k b) (ix2 (n0 := 2048) (n1 := 32) n d) = projK (krows k b) (pmat pr) n d := by
  unfold k0_pay2
  pointwise
  exact Finset.sum_congr rfl fun e _ => congrArg (fun x : EReal => x * pmat pr e d) (whole_at k b n e)

theorem pay3_at (b : Fin 4) (n : Fin 2048) (d : Fin 32) :
    k0_pay3 (F := Ideal) pr (whole k b) (ix2 (n0 := 2048) (n1 := 32) n d) = projK (krows k b) (pmat pr) n d := by
  unfold k0_pay3
  pointwise
  exact pay2_at k pr b n d

theorem pay4_at (b : Fin 4) (c d : Fin 32) :
    k0_pay4 (F := Ideal) pr (whole k b) (ix2 (n0 := 32) (n1 := 32) c d)
      = (∑ n, projK (krows k b) (pmat pr) n c * projK (krows k b) (pmat pr) n d) * lit 0x3A000000#32 := by
  unfold k0_pay4
  pointwise
  exact congrArg (fun x : EReal => x * lit 0x3A000000#32) (Finset.sum_congr rfl fun n _ => congrArg₂ (fun x y : EReal => x * y) (pay2_at k pr b n c) (pay2_at k pr b n d))

theorem pay5_at (b : Fin 4) (d : Fin 32) :
    k0_pay5 (F := Ideal) pr (whole k b) (ix2 (n0 := 1) (n1 := 32) 0 d)
      = Ideal.div (∑ n, projK (krows k b) (pmat pr) n d) (lit 0x45000000#32) := by
  unfold k0_pay5
  pointwise
  exact congrArg (fun x : EReal => Ideal.div x (lit 0x45000000#32)) (Finset.sum_congr rfl fun n _ => pay2_at k pr b n d)

theorem pay6_at (b : Fin 4) (n : Fin 2048) (e : Fin 1024) :
    k0_pay6 (F := Ideal) (whole v b) (ix2 (n0 := 2048) (n1 := 1024) n e) = krows v b n e := by
  unfold k0_pay6
  pointwise
  exact whole_at v b n e

theorem pay7_at (b : Fin 4) (i : Fin 8) (m : Fin 256) (e : Fin 1024) :
    k0_pay7 (F := Ideal) (rows q b i) (ix2 (n0 := 256) (n1 := 1024) m e) = qrow q b (rowOf i m) e * lit 0x3D000000#32 := by
  unfold k0_pay7
  pointwise
  exact congrArg (fun x : EReal => x * lit 0x3D000000#32) (rows_at q b i m e)

theorem pay8_at (b : Fin 4) (i : Fin 8) (m : Fin 256) (d : Fin 32) :
    k0_pay8 (F := Ideal) pr (rows q b i) (ix2 (n0 := 256) (n1 := 32) m d) = projQ (qrow q b (rowOf i m)) (pmat pr) d := by
  unfold k0_pay8
  pointwise
  exact Finset.sum_congr rfl fun e _ => congrArg (fun x : EReal => x * pmat pr e d) (pay7_at q b i m e)

theorem pay9_at (b : Fin 4) (i : Fin 8) (m : Fin 256) (n : Fin 2048) :
    k0_pay9 (F := Ideal) pr (rows q b i) (k0_pay3 (F := Ideal) pr (whole k b)) (ix2 (n0 := 256) (n1 := 2048) m n)
      = simK (qrow q b (rowOf i m)) (krows k b) (pmat pr) n := by
  unfold k0_pay9
  pointwise
  exact Finset.sum_congr rfl fun d _ => congrArg₂ (fun x y : EReal => x * y) (pay8_at q pr b i m d) (pay3_at k pr b n d)

theorem pay10_at (b : Fin 4) (i : Fin 8) (m : Fin 256) (n : Fin 2048) :
    k0_pay10 (F := Ideal) (rows q b i) (whole k b) (ix2 (n0 := 256) (n1 := 2048) m n)
      = ∑ e, qrow q b (rowOf i m) e * lit 0x3D000000#32 * krows k b n e := by
  unfold k0_pay10
  pointwise
  exact Finset.sum_congr rfl fun e _ => congrArg₂ (fun x y : EReal => x * y) (pay7_at q b i m e) (whole_at k b n e)

theorem pay11_at (b : Fin 4) (i : Fin 8) (m : Fin 256) :
    k0_pay11 (F := Ideal) pr (rows q b i) (k0_pay5 (F := Ideal) pr (whole k b)) (ix2 (n0 := 256) (n1 := 1) m 0)
      = meanK (qrow q b (rowOf i m)) (krows k b) (pmat pr) := by
  unfold k0_pay11
  pointwise
  exact Finset.sum_congr rfl fun d _ => congrArg₂ (fun x y : EReal => x * y) (pay8_at q pr b i m d) (pay5_at k pr b d)

theorem pay12_at (b : Fin 4) (i : Fin 8) (m : Fin 256) :
    k0_pay12 (F := Ideal) pr (rows q b i) (k0_pay4 (F := Ideal) pr (whole k b)) (k0_pay5 (F := Ideal) pr (whole k b)) (ix2 (n0 := 256) (n1 := 1) m 0)
      = devK (qrow q b (rowOf i m)) (krows k b) (pmat pr) := by
  unfold k0_pay12
  pointwise
  unfold devK devOf
  refine congrArg₂ (fun x y : EReal => Ideal.sqrt (max (x - y * y) 0)) ?_ (pay11_at q k pr b i m)
  refine Finset.sum_congr rfl fun d _ => congrArg₂ (fun x y : EReal => x * y) ?_ (pay8_at q pr b i m d)
  exact Finset.sum_congr rfl fun c _ => congrArg₂ (fun x y : EReal => x * y) (pay8_at q pr b i m c) (pay4_at k pr b c d)

/-- The threshold the kernel's search ends at, for one row. -/
def level (b : Fin 4) (m : Fin 2048) : EReal :=
  thr (simK (qrow q b m) (krows k b) (pmat pr)) (meanK (qrow q b m) (krows k b) (pmat pr)) (devK (qrow q b m) (krows k b) (pmat pr))

/-- An entry of one block of the kernel's output. -/
theorem block_at (b : Fin 4) (i : Fin 8) (m : Fin 256) (e : Fin 1024) :
    blockOut (F := Ideal) q k v pr b i (at3s m e)
      = ∑ n, ((if level q k pr b (rowOf i m) ≤ simK (qrow q b (rowOf i m)) (krows k b) (pmat pr) n
            then Ideal.exp (∑ e, qrow q b (rowOf i m) e * lit 0x3D000000#32 * krows k b n e) else 0)
          * Ideal.div 1 (∑ n, if level q k pr b (rowOf i m) ≤ simK (qrow q b (rowOf i m)) (krows k b) (pmat pr) n
            then Ideal.exp (∑ e, qrow q b (rowOf i m) e * lit 0x3D000000#32 * krows k b n e) else 0)) * krows v b n e := by
  have ht : thr (row (k0_pay9 (F := Ideal) pr (rows q b i) (k0_pay3 (F := Ideal) pr (whole k b))) (ix2 (n0 := 256) (n1 := 1) m 0))
      (k0_pay11 (F := Ideal) pr (rows q b i) (k0_pay5 (F := Ideal) pr (whole k b)) (ix2 (n0 := 256) (n1 := 1) m 0))
      (k0_pay12 (F := Ideal) pr (rows q b i) (k0_pay4 (F := Ideal) pr (whole k b)) (k0_pay5 (F := Ideal) pr (whole k b)) (ix2 (n0 := 256) (n1 := 1) m 0))
        = level q k pr b (rowOf i m) := by
    rw [pay11_at, pay12_at]
    exact congrArg (fun s => thr s (meanK (qrow q b (rowOf i m)) (krows k b) (pmat pr)) (devK (qrow q b (rowOf i m)) (krows k b) (pmat pr)))
      (funext fun n => pay9_at q k pr b i m n)
  unfold blockOut
  rw [tile_eq]
  have hx : ∀ X : FVec Ideal S256x1024 .f32, k0_pay1 (F := Ideal) X (at3s m e) = X (ix2 (n0 := 256) (n1 := 1024) m e) := by
    intro X
    have e3 : at3s m e = ix3 (n0 := 1) (n1 := 256) (n2 := 1024) 0 m e := by
      funext c
      match c with
      | ⟨0, _⟩ => rfl
      | ⟨1, _⟩ => rfl
      | ⟨2, _⟩ => rfl
    rw [e3]
    unfold k0_pay1
    pointwise
  rw [hx, finish_apply]
  have hw : ∀ n : Fin 2048, (if thr (row (k0_pay9 (F := Ideal) pr (rows q b i) (k0_pay3 (F := Ideal) pr (whole k b))) (ix2 (n0 := 256) (n1 := 1) m 0))
      (k0_pay11 (F := Ideal) pr (rows q b i) (k0_pay5 (F := Ideal) pr (whole k b)) (ix2 (n0 := 256) (n1 := 1) m 0))
      (k0_pay12 (F := Ideal) pr (rows q b i) (k0_pay4 (F := Ideal) pr (whole k b)) (k0_pay5 (F := Ideal) pr (whole k b)) (ix2 (n0 := 256) (n1 := 1) m 0))
        ≤ k0_pay9 (F := Ideal) pr (rows q b i) (k0_pay3 (F := Ideal) pr (whole k b)) (ix2 (n0 := 256) (n1 := 2048) m n)
        then Ideal.exp (k0_pay10 (F := Ideal) (rows q b i) (whole k b) (ix2 (n0 := 256) (n1 := 2048) m n)) else 0)
      = (if level q k pr b (rowOf i m) ≤ simK (qrow q b (rowOf i m)) (krows k b) (pmat pr) n
            then Ideal.exp (∑ e, qrow q b (rowOf i m) e * lit 0x3D000000#32 * krows k b n e) else 0) := by
    intro n
    rw [ht, pay9_at, pay10_at]
  refine Finset.sum_congr rfl fun n _ => congrArg₂ (fun x y : EReal => x * y) (congrArg₂ (fun x y : EReal => x * Ideal.div 1 y) (hw n) ?_) (pay6_at v b n e)
  exact Finset.sum_congr rfl fun n _ => hw n

end Cert.KernelIdeal.Row
-- ==== Proof.Picks.lean ====
module

public import proofs.«01_k».proof.ReferenceIdeal
public import proofs.«01_k».proof.Proof.Gen.ReferenceIdeal.Read
public import proofs.«01_k».proof.Proof.Lits
public import Idealize.ShloMosaic.Lib.Pointwise
public import Idealize.ShloMosaic.Lib.SortFacts

@[expose] public section

set_option maxRecDepth 16384

noncomputable section

/-! # The 204 most similar keys

What the reference's selection picks: when exactly 204 entries of a row reach a threshold, it picks
those. -/

namespace Cert.ReferenceIdeal.Picks

open Cert.ReferenceIdeal Cert.ReferenceIdeal.Gen Cert.Search
open Idealize.ShloMosaic

/-- The order in which a row's entries are picked: the greater one first. -/
def above (x : Fin 2048 → EReal) (m n : Fin 2048) : Bool := FloatOps.cmpfTotal (F := Ideal) (φ := .f32) .gt (x m) (x n) == 1#1

theorem above_iff (x : Fin 2048 → EReal) (m n : Fin 2048) : above x m n = true ↔ x n < x m := by
  unfold above
  show (BitVec.ofBool (decide (x n < x m)) == 1#1) = true ↔ x n < x m
  by_cases h : x n < x m <;> simp [h]

/-- The position of the `r`-th entry picked. -/
def pick (x : Fin 2048 → EReal) (r : Fin 204) : Fin 2048 := sortedFrom (above x) (r.castLE (by decide))

theorem pick_injective (x : Fin 2048 → EReal) : Function.Injective (pick x) := fun r s h =>
  Fin.castLE_injective _ (sortedFrom_injective _ h)

/-- An entry not picked is no greater than one that is. -/
theorem le_of_pick (x : Fin 2048 → EReal) (r : Fin 204) (n : Fin 2048) (hn : ∀ s, pick x s ≠ n) : x n ≤ x (pick x r) := by
  obtain ⟨j, rfl⟩ := sortedFrom_surjective (above x) n
  have hj : 204 ≤ j.val := by
    by_contra h
    exact hn ⟨j.val, by omega⟩ rfl
  have h := sortedFrom_noInversion (above x) (above x)
    (fun m n h => by
      rw [above_iff] at h
      by_contra h'
      rw [Bool.not_eq_false, above_iff] at h'
      exact lt_asymm h h')
    (fun _ _ h => h)
    (fun l m n h h' => by
      have h1 : ¬ x m < x l := fun e => by rw [← above_iff x l m, h] at e; exact absurd e (by decide)
      have h2 : ¬ x n < x m := fun e => by rw [← above_iff x m n, h'] at e; exact absurd e (by decide)
      by_contra h3
      rw [Bool.not_eq_false, above_iff] at h3
      exact h3.not_ge ((not_lt.mp h1).trans (not_lt.mp h2)))
    (r.castLE (by decide)) j (by
      show r.val < j.val
      have := r.isLt
      omega)
  by_contra hlt
  have := (above_iff x (sortedFrom (above x) j) (pick x r)).mpr (not_le.mp hlt)
  exact absurd (h.symm.trans this) (by decide)

/-- If 204 entries are set apart, each greater than every other entry, those are the ones picked. -/
theorem picked_iff (x : Fin 2048 → EReal) (P : Fin 2048 → Prop) [DecidablePred P] (hc : (Finset.univ.filter P).card = 204)
    (hP : ∀ m n, ¬ P m → P n → x m < x n) (n : Fin 2048) : P n ↔ ∃ r, pick x r = n := by
  have hcard : (Finset.univ.image (pick x)).card = 204 := by
    rw [Finset.card_image_of_injective _ (pick_injective x)]
    simp
  have hsub : Finset.univ.filter P ⊆ Finset.univ.image (pick x) := by
    intro n hn
    by_contra hnp
    have hne : ∀ s, pick x s ≠ n := fun s e => hnp (Finset.mem_image.mpr ⟨s, Finset.mem_univ _, e⟩)
    have hex : ∃ r, ¬ P (pick x r) := by
      by_contra hall
      push Not at hall
      have h1 : Finset.univ.image (pick x) ⊆ Finset.univ.filter P := by
        intro m hm
        obtain ⟨r, _, rfl⟩ := Finset.mem_image.mp hm
        exact Finset.mem_filter.mpr ⟨Finset.mem_univ _, hall r⟩
      have h2 := Finset.eq_of_subset_of_card_le h1 (by rw [hc, hcard])
      exact hnp (h2 ▸ hn)
    obtain ⟨r, hr⟩ := hex
    exact absurd (le_of_pick x r n hne) (not_le.mpr (hP _ _ hr (Finset.mem_filter.mp hn).2))
  have heq := Finset.eq_of_subset_of_card_le hsub (by rw [hc, hcard])
  constructor
  · intro h
    have : n ∈ Finset.univ.image (pick x) := heq ▸ Finset.mem_filter.mpr ⟨Finset.mem_univ _, h⟩
    obtain ⟨r, _, hr⟩ := Finset.mem_image.mp this
    exact ⟨r, hr⟩
  · rintro ⟨r, hr⟩
    have : n ∈ Finset.univ.filter P := heq ▸ Finset.mem_image.mpr ⟨r, Finset.mem_univ _, hr⟩
    exact (Finset.mem_filter.mp this).2

/-- The count of the entries that reach a threshold, as a number of entries. -/
theorem card_of_cnt (s : Fin 2048 → EReal) (t : EReal) (h : cnt s t = lit 0x434C0000#32) : (Finset.univ.filter fun n => t ≤ s n).card = 204 := by
  have e : cnt s t = (((Finset.univ.filter fun n => t ≤ s n).card : ℝ) : EReal) := by
    rw [cnt, Finset.card_filter, Nat.cast_sum, coe_sum]
    refine Finset.sum_congr rfl fun n _ => ?_
    split <;> simp
  rw [e, lit_204, EReal.coe_eq_coe_iff] at h
  exact_mod_cast h

/-- The second result of a sort of two arrays along one axis. -/
theorem sort2_at {s : Shape} (a : Fin s.rank) {α β : Type} (cmp : α × β → α × β → BitVec 1) (x : s.Idx → α) (y : s.Idx → β) (j : s.Idx) :
    (Host.sort2 s a.val cmp x y).2 j = y (j.along a (sortedFrom (fun k k' => cmp (x (j.along a k), y (j.along a k)) (x (j.along a k'), y (j.along a k')) == 1#1) (j a))) := by
  unfold Host.sort2
  rw [dif_pos a.isLt]

/-- The words the selection answers with are the positions picked. -/
theorem topK_at (x : FVec Ideal S4x2048x2048 .f32) (a : Fin 4) (b : Fin 2048) (r : Fin 204) :
    (Host.topK S4x2048x204 2 (FloatOps.cmpfTotal .gt) x sliceFits_S4x2048x2048_S4x2048x204).2 (ix3 (n0 := 4) (n1 := 2048) (n2 := 204) a b r)
      = BitVec.ofNat 32 (pick (fun n => x (ix3 (n0 := 4) (n1 := 2048) (n2 := 2048) a b n)) r).val := by
  have ha : ∀ k : Fin 2048, Shape.Idx.along (s := S4x2048x2048) (ix3 (n0 := 4) (n1 := 2048) (n2 := 2048) a b (r.castLE (by decide))) 2 k
      = ix3 (n0 := 4) (n1 := 2048) (n2 := 2048) a b k := by
    intro k
    funext c
    match c with
    | ⟨0, _⟩ => rfl
    | ⟨1, _⟩ => rfl
    | ⟨2, _⟩ => rfl
  have hj : (fun c : Fin S4x2048x2048.rank => (⟨0 + (ix3 (n0 := 4) (n1 := 2048) (n2 := 204) a b r (c.cast sliceFits_S4x2048x2048_S4x2048x204.1.symm)).val,
      Nat.lt_of_lt_of_le (Nat.add_lt_add_left (Fin.isLt _) _) (sliceFits_S4x2048x2048_S4x2048x204.2 c)⟩ : Fin (S4x2048x2048.size c)))
      = ix3 (n0 := 4) (n1 := 2048) (n2 := 2048) a b (r.castLE (by decide)) := by
    funext c
    match c with
    | ⟨0, _⟩ => exact Fin.ext (Nat.zero_add _)
    | ⟨1, _⟩ => exact Fin.ext (Nat.zero_add _)
    | ⟨2, _⟩ => exact Fin.ext (Nat.zero_add _)
  have h2 : (Host.topK S4x2048x204 2 (FloatOps.cmpfTotal .gt) x sliceFits_S4x2048x2048_S4x2048x204).2 (ix3 (n0 := 4) (n1 := 2048) (n2 := 204) a b r)
      = (Host.sort2 S4x2048x2048 2 (fun l r => FloatOps.cmpfTotal .gt l.1 r.1) x (fun i => if hd : 2 < S4x2048x2048.rank then iotaInDim S4x2048x2048 32 ⟨2, hd⟩ i else 0#32)).2
          (ix3 (n0 := 4) (n1 := 2048) (n2 := 2048) a b (r.castLE (by decide))) := by
    rw [← hj]
    rfl
  rw [h2]
  refine (sort2_at (s := S4x2048x2048) 2 _ x _ (ix3 (n0 := 4) (n1 := 2048) (n2 := 2048) a b (r.castLE (by decide)))).trans ?_
  refine (congrArg (fun i : S4x2048x2048.Idx => if hd : 2 < S4x2048x2048.rank then iotaInDim S4x2048x2048 32 ⟨2, hd⟩ i else 0#32) (ha _)).trans ?_
  have hk : ∀ m n : Fin 2048, (fun k k' : Fin 2048 => FloatOps.cmpfTotal (F := Ideal) (φ := .f32) .gt
      (x (Shape.Idx.along (s := S4x2048x2048) (ix3 (n0 := 4) (n1 := 2048) (n2 := 2048) a b (r.castLE (by decide))) 2 k))
      (x (Shape.Idx.along (s := S4x2048x2048) (ix3 (n0 := 4) (n1 := 2048) (n2 := 2048) a b (r.castLE (by decide))) 2 k')) == 1#1) m n
      = above (fun n => x (ix3 (n0 := 4) (n1 := 2048) (n2 := 2048) a b n)) m n := by
    intro m n
    unfold above
    exact congrArg₂ (fun i j => FloatOps.cmpfTotal (F := Ideal) (φ := .f32) .gt (x i) (x j) == 1#1) (ha m) (ha n)
  have hf := funext fun m => funext fun n => hk m n
  unfold pick
  rw [← hf]
  rfl

end Cert.ReferenceIdeal.Picks
-- ==== Proof.RefMask.lean ====
module

public import proofs.«01_k».proof.Proof.Picks
public import Idealize.ShloMosaic.Lib.Routing.OpsSet

@[expose] public section

set_option maxRecDepth 16384

noncomputable section

/-! # The reference's mask

The reference writes a one into an array of zeros at every key it picks. -/

namespace Cert.ReferenceIdeal.Picks

open Cert.ReferenceIdeal Cert.ReferenceIdeal.Gen Cert.ReferenceIdeal.Read Cert.Search
open Idealize.ShloMosaic

variable (q k : FVec Ideal S4x2048x1024 .f32) (p : FVec Ideal S1024x32 .f32)

/-- The reference's row of similarities, which it does not scale. -/
def simR (a : Fin 4) (b : Fin 2048) (n : Fin 2048) : EReal :=
  val_main_v2 (F := Ideal) q k p (ix3 (n0 := 4) (n1 := 2048) (n2 := 2048) a b n)

theorem toNat_small (n : Nat) (h : n < 2048) : (BitVec.ofNat 32 n).toNat = n := by
  rw [BitVec.toNat_ofNat]
  omega

theorem toInt_small (n : Nat) (h : n < 2048) : (BitVec.ofNat 32 n).toInt = (n : Int) := by
  rw [BitVec.toInt_eq_toNat_of_lt (by rw [toNat_small n h]; omega), toNat_small n h]

/-- An index word that is not negative is left as it is. -/
theorem wrap_small (n : Nat) (h : n < 2048) (y : BitVec 32) : Scalar.select (IntOp.cmpi .slt (BitVec.ofNat 32 n) 0#32) y (BitVec.ofNat 32 n) = BitVec.ofNat 32 n :=
  Routing.wrap_of_lt _ _ (by rw [toNat_small n h]; omega)

theorem word0 (i : S4x1x1.Idx) : val_main_v12 (F := Ideal) i = BitVec.ofNat 32 (i 0).val := by
  rw [val_main_v12_apply, val_main_v9_apply, val_main_v8_apply, val_main_v4_apply]
  exact wrap_small _ (lt_trans (i 0).isLt (by decide)) _

theorem word1 (i : S1x2048x1.Idx) : val_main_v17 (F := Ideal) i = BitVec.ofNat 32 (i 1).val := by
  rw [val_main_v17_apply, val_main_v14_apply, val_main_v13_apply, val_main_v6_apply]
  exact wrap_small _ (i 1).isLt _

theorem word2 (a : Fin 4) (b : Fin 2048) (r : Fin 204) :
    val_main_v22 (F := Ideal) q k p (ix3 (n0 := 4) (n1 := 2048) (n2 := 204) a b r) = BitVec.ofNat 32 (pick (simR q k p a b) r).val := by
  have h : val_main_indices (F := Ideal) q k p (ix3 (n0 := 4) (n1 := 2048) (n2 := 204) a b r) = BitVec.ofNat 32 (pick (simR q k p a b) r).val :=
    topK_at (val_main_v2 (F := Ideal) q k p) a b r
  rw [val_main_v22_apply, val_main_v19_apply, val_main_v18_apply, h]
  exact wrap_small _ (pick (simR q k p a b) r).isLt _

/-- The three index words of each pick: its batch, its row, and the key picked. -/
theorem words0 (a : Fin 4) (b : Fin 2048) (r : Fin 204) :
    val_main_v28 (F := Ideal) q k p (ix4 (n0 := 4) (n1 := 2048) (n2 := 204) (n3 := 3) a b r 0) = BitVec.ofNat 32 a.val := by
  have h : val_main_v28 (F := Ideal) q k p (ix4 (n0 := 4) (n1 := 2048) (n2 := 204) (n3 := 3) a b r 0)
      = val_main_v25 (F := Ideal) (ix4 (n0 := 4) (n1 := 2048) (n2 := 204) (n3 := 1) a b r 0) := by
    unfold val_main_v28
    pointwise
  rw [h, val_main_v25_apply, val_main_v23_apply, word0]
  rfl

theorem words1 (a : Fin 4) (b : Fin 2048) (r : Fin 204) :
    val_main_v28 (F := Ideal) q k p (ix4 (n0 := 4) (n1 := 2048) (n2 := 204) (n3 := 3) a b r 1) = BitVec.ofNat 32 b.val := by
  have h : val_main_v28 (F := Ideal) q k p (ix4 (n0 := 4) (n1 := 2048) (n2 := 204) (n3 := 3) a b r 1)
      = val_main_v26 (F := Ideal) (ix4 (n0 := 4) (n1 := 2048) (n2 := 204) (n3 := 1) a b r 0) := by
    unfold val_main_v28
    pointwise
  rw [h, val_main_v26_apply, val_main_v24_apply, word1]
  rfl

theorem words2 (a : Fin 4) (b : Fin 2048) (r : Fin 204) :
    val_main_v28 (F := Ideal) q k p (ix4 (n0 := 4) (n1 := 2048) (n2 := 204) (n3 := 3) a b r 2) = BitVec.ofNat 32 (pick (simR q k p a b) r).val := by
  have h : val_main_v28 (F := Ideal) q k p (ix4 (n0 := 4) (n1 := 2048) (n2 := 204) (n3 := 3) a b r 2)
      = val_main_v27 (F := Ideal) q k p (ix4 (n0 := 4) (n1 := 2048) (n2 := 204) (n3 := 1) a b r 0) := by
    unfold val_main_v28
    pointwise
  rw [h, val_main_v27_apply]
  have e : idx_main_v27 (ix4 (n0 := 4) (n1 := 2048) (n2 := 204) (n3 := 1) a b r 0) = ix3 (n0 := 4) (n1 := 2048) (n2 := 204) a b r := by
    funext c
    match c with
    | ⟨0, _⟩ => rfl
    | ⟨1, _⟩ => rfl
    | ⟨2, _⟩ => rfl
  rw [e, word2]

/-- Where a pick's one is written: at the place its three words name. -/
theorem lands (idx : IVec S4x2048x204x3 32) (a a' : Fin 4) (b b' : Fin 2048) (r : Fin 204) (n : Fin 2048) :
    scatter_S4x2048x2048_S4x2048x204x3_S4x2048x204_n_012_012_3.resultIdx? (ix3 (n0 := 4) (n1 := 2048) (n2 := 204) a b r) idx
        = some (ix3 (n0 := 4) (n1 := 2048) (n2 := 2048) a' b' n)
      ↔ (idx (ix4 (n0 := 4) (n1 := 2048) (n2 := 204) (n3 := 3) a b r 0)).toInt = (a'.val : Int)
        ∧ (idx (ix4 (n0 := 4) (n1 := 2048) (n2 := 204) (n3 := 3) a b r 1)).toInt = (b'.val : Int)
        ∧ (idx (ix4 (n0 := 4) (n1 := 2048) (n2 := 204) (n3 := 3) a b r 2)).toInt = (n.val : Int) := by
  have hw : ∀ c : Fin 3, scatter_S4x2048x2048_S4x2048x204x3_S4x2048x204_n_012_012_3.window (ix3 (n0 := 4) (n1 := 2048) (n2 := 204) a b r) c = 0 := by
    intro c
    unfold ScatterDims.window
    rw [dif_neg (by revert c; decide)]
  have hs : ∀ c : Fin 3, scatter_S4x2048x2048_S4x2048x204x3_S4x2048x204_n_012_012_3.start (ix3 (n0 := 4) (n1 := 2048) (n2 := 204) a b r) idx c
      = (idx (ix4 (n0 := 4) (n1 := 2048) (n2 := 204) (n3 := 3) a b r c)).toInt := by
    intro c
    unfold ScatterDims.start
    rw [dif_pos (by revert c; decide)]
    refine congrArg (fun i => (idx i).toInt) ?_
    funext e
    match e with
    | ⟨0, _⟩ => rfl
    | ⟨1, _⟩ => rfl
    | ⟨2, _⟩ => rfl
    | ⟨3, _⟩ =>
      match c with
      | ⟨0, _⟩ => rfl
      | ⟨1, _⟩ => rfl
      | ⟨2, _⟩ => rfl
  rw [Routing.resultIdx?_eq_some]
  constructor
  · intro h
    have h0 := h (0 : Fin 3)
    have h1 := h (1 : Fin 3)
    have h2 := h (2 : Fin 3)
    rw [hs, hw] at h0 h1 h2
    exact ⟨(add_zero _).symm.trans h0, (add_zero _).symm.trans h1, (add_zero _).symm.trans h2⟩
  · rintro ⟨h0, h1, h2⟩ c
    match c with
    | ⟨0, _⟩ => exact (congrArg₂ (fun x (y : Nat) => x + (y : Int)) (hs 0) (hw 0)).trans ((add_zero _).trans h0)
    | ⟨1, _⟩ => exact (congrArg₂ (fun x (y : Nat) => x + (y : Int)) (hs 1) (hw 1)).trans ((add_zero _).trans h1)
    | ⟨2, _⟩ => exact (congrArg₂ (fun x (y : Nat) => x + (y : Int)) (hs 2) (hw 2)).trans ((add_zero _).trans h2)

theorem pick_lands (a a' : Fin 4) (b b' : Fin 2048) (r : Fin 204) (n : Fin 2048) :
    scatter_S4x2048x2048_S4x2048x204x3_S4x2048x204_n_012_012_3.resultIdx? (ix3 (n0 := 4) (n1 := 2048) (n2 := 204) a b r) (val_main_v28 (F := Ideal) q k p)
        = some (ix3 (n0 := 4) (n1 := 2048) (n2 := 2048) a' b' n)
      ↔ a = a' ∧ b = b' ∧ pick (simR q k p a b) r = n := by
  rw [lands, words0, words1, words2, toInt_small _ (lt_trans a.isLt (by decide)), toInt_small _ b.isLt, toInt_small _ (pick (simR q k p a b) r).isLt]
  constructor
  · rintro ⟨h0, h1, h2⟩
    exact ⟨Fin.ext (by omega), Fin.ext (by omega), Fin.ext (by omega)⟩
  · rintro ⟨h0, h1, h2⟩
    subst h0 h1
    exact ⟨rfl, rfl, by rw [h2]⟩

/-- The mask holds a one at every key picked, -/
theorem mask_hit (a : Fin 4) (b : Fin 2048) (n : Fin 2048) (h : ∃ r, pick (simR q k p a b) r = n) :
    val_main_v30 (F := Ideal) q k p (ix3 (n0 := 4) (n1 := 2048) (n2 := 2048) a b n) = 1 := by
  obtain ⟨r, hr⟩ := h
  unfold val_main_v30
  refine Routing.scatter_set_hit _ _ _ _ _ _ (fun j _ => ?_) (ix3 (n0 := 4) (n1 := 2048) (n2 := 204) a b r) ((pick_lands q k p a a b b r n).mpr ⟨rfl, rfl, hr⟩)
  rw [val_main_v29_apply]
  exact Ideal.ofBits_one_f32

/-- and a zero at every other. -/
theorem mask_miss (a : Fin 4) (b : Fin 2048) (n : Fin 2048) (h : ¬ ∃ r, pick (simR q k p a b) r = n) :
    val_main_v30 (F := Ideal) q k p (ix3 (n0 := 4) (n1 := 2048) (n2 := 2048) a b n) = 0 := by
  unfold val_main_v30
  refine (Routing.scatter_set_miss _ _ _ _ _ (fun j => ?_)).trans ?_
  · have e : j = ix3 (n0 := 4) (n1 := 2048) (n2 := 204) (j 0) (j 1) (j 2) := by
      funext c
      match c with
      | ⟨0, _⟩ => rfl
      | ⟨1, _⟩ => rfl
      | ⟨2, _⟩ => rfl
    rw [e]
    intro hj
    obtain ⟨h0, h1, h2⟩ := (pick_lands q k p (j 0) a (j 1) b (j 2) n).mp hj
    rw [h0, h1] at h2
    exact h ⟨_, h2⟩
  · rw [val_main_v7_apply]
    exact Ideal.ofBits_zero_f32

end Cert.ReferenceIdeal.Picks
-- ==== Proof.Softmax.lean ====
module

public import proofs.«01_k».proof.Proof.Lits

@[expose] public section

set_option maxRecDepth 16384

noncomputable section

/-! # A softmax over the picked entries

A row keeps the scores of its picked entries and holds minus infinity at every other. Its
softmax, taken after subtracting the row's largest score, is the plain quotient of the
exponentials: what is subtracted cancels. -/

namespace Cert.Search

open Idealize.ShloMosaic

variable {N : Nat} (P : Fin N → Prop) [DecidablePred P] (w : Fin N → ℝ)

/-- The row: the picked scores, minus infinity elsewhere. -/
def masked (n : Fin N) : EReal := if P n then (w n : EReal) else ⊥

/-- The sum of the picked entries' exponentials. -/
def mass : ℝ := ∑ n, if P n then Real.exp (w n) else 0

/-- An entry's share. -/
def share (n : Fin N) : ℝ := (if P n then Real.exp (w n) else 0) / mass P w

theorem mass_pos (h : ∃ n, P n) : 0 < mass P w := by
  obtain ⟨n, hn⟩ := h
  refine Finset.sum_pos' (fun i _ => ?_) ⟨n, Finset.mem_univ n, ?_⟩
  · split
    · exact (Real.exp_pos _).le
    · exact le_refl _
  · rw [if_pos hn]
    exact Real.exp_pos _

/-- The largest score is a real number. -/
theorem top_real (h : ∃ n, P n) : ∃ r : ℝ, max ⊥ (Finset.fold max ⊥ (masked P w) Finset.univ) = (r : EReal) := by
  obtain ⟨n, hn⟩ := h
  rw [max_eq_right bot_le]
  have hlt : Finset.fold max ⊥ (masked P w) Finset.univ < ⊤ := by
    rw [Finset.fold_max_lt]
    refine ⟨bot_lt_top, fun i _ => ?_⟩
    unfold masked
    split
    · exact EReal.coe_lt_top _
    · exact bot_lt_top
  have hgt : ⊥ < Finset.fold max ⊥ (masked P w) Finset.univ := by
    rw [Finset.lt_fold_max]
    refine Or.inr ⟨n, Finset.mem_univ n, ?_⟩
    unfold masked
    rw [if_pos hn]
    exact EReal.bot_lt_coe _
  exact ⟨_, (EReal.coe_toReal hlt.ne hgt.ne').symm⟩

theorem exp_masked (r : ℝ) (n : Fin N) :
    Ideal.exp (masked P w n - (r : EReal)) = (((if P n then Real.exp (w n) else 0) * (Real.exp r)⁻¹ : ℝ) : EReal) := by
  unfold masked
  split
  · rw [← EReal.coe_sub, Ideal.exp_coe, Real.exp_sub, div_eq_mul_inv]
  · rw [EReal.bot_sub, Ideal.exp_bot, zero_mul, EReal.coe_zero]

/-- The shifted softmax is the share. -/
theorem shifted (h : ∃ n, P n) (r : ℝ) (n : Fin N) :
    Ideal.div (Ideal.exp (masked P w n - (r : EReal))) (∑ m, Ideal.exp (masked P w m - (r : EReal))) = ((share P w n : ℝ) : EReal) := by
  have hm := mass_pos P w h
  have hr := Real.exp_pos r
  have e : (∑ m, Ideal.exp (masked P w m - (r : EReal))) = ((mass P w * (Real.exp r)⁻¹ : ℝ) : EReal) := by
    unfold mass
    rw [Finset.sum_mul, coe_sum]
    exact Finset.sum_congr rfl fun m _ => exp_masked P w r m
  rw [e, exp_masked, Ideal.div_coe (mul_pos hm (inv_pos.mpr hr)).ne', ← EReal.coe_mul]
  congr 1
  unfold share
  field_simp

/-- The kernel's softmax, which subtracts nothing and multiplies by a reciprocal, is the share too. -/
theorem unshifted (h : ∃ n, P n) (n : Fin N) :
    (if P n then Ideal.exp (w n : EReal) else 0) * Ideal.div 1 (∑ m, if P m then Ideal.exp (w m : EReal) else 0) = ((share P w n : ℝ) : EReal) := by
  have hm := mass_pos P w h
  have c : ∀ m, (if P m then Ideal.exp (w m : EReal) else 0) = (((if P m then Real.exp (w m) else 0) : ℝ) : EReal) := by
    intro m
    split
    · rw [Ideal.exp_coe]
    · rw [EReal.coe_zero]
  have e : (∑ m, if P m then Ideal.exp (w m : EReal) else 0) = ((mass P w : ℝ) : EReal) := by
    unfold mass
    rw [coe_sum]
    exact Finset.sum_congr rfl fun m _ => c m
  rw [e, c, Ideal.div_coe hm.ne', one_mul, ← EReal.coe_mul]
  congr 1
  unfold share
  field_simp

end Cert.Search
-- ==== Proof.RefRead.lean ====
module

public import proofs.«01_k».proof.Proof.RefMask
public import proofs.«01_k».proof.Proof.Softmax
public import Idealize.ShloMosaic.Lib.Pointwise

@[expose] public section

set_option maxRecDepth 16384

noncomputable section

/-! # The reference's output, entry by entry -/

namespace Cert.ReferenceIdeal.Picks

open Cert.ReferenceIdeal Cert.ReferenceIdeal.Gen Cert.ReferenceIdeal.Read Cert.Search
open Idealize.ShloMosaic

theorem sel_oeq (x y u w : EReal) : Scalar.select (FloatOps.cmpf (F := Ideal) (φ := .f32) .oeq x y) u w = if x = y then u else w := by
  by_cases h : x = y
  · rw [if_pos h]
    exact if_pos (congrArg BitVec.ofBool (decide_eq_true h))
  · rw [if_neg h]
    refine if_neg ?_
    rw [show FloatOps.cmpf (F := Ideal) (φ := .f32) .oeq x y = 0#1 from congrArg BitVec.ofBool (decide_eq_false h)]
    decide

theorem sel_une (x u w : EReal) : Scalar.select (FloatOps.cmpf (F := Ideal) (φ := .f32) .une x x) u w = w := by
  refine if_neg ?_
  rw [show FloatOps.cmpf (F := Ideal) (φ := .f32) .une x x = 0#1 from congrArg BitVec.ofBool (decide_eq_false (fun h => h rfl))]
  decide

variable (q k v : FVec Ideal S4x2048x1024 .f32) (p : FVec Ideal S1024x32 .f32)
variable (a : Fin 4) (b : Fin 2048) (P : Fin 2048 → Prop) [DecidablePred P] (w : Fin 2048 → ℝ)

/-- The masked scores of a row. -/
theorem scores_at (hp : ∀ n, P n ↔ ∃ r, pick (simR q k p a b) r = n)
    (hw : ∀ n, val_main_v33 (F := Ideal) q k (ix3 (n0 := 4) (n1 := 2048) (n2 := 2048) a b n) = (w n : EReal)) (n : Fin 2048) :
    val_main_v36 (F := Ideal) q k p (ix3 (n0 := 4) (n1 := 2048) (n2 := 2048) a b n) = masked P w n := by
  have z : val_main_v34 (F := Ideal) (ix3 (n0 := 4) (n1 := 2048) (n2 := 2048) a b n) = (0 : EReal) := by
    rw [val_main_v34_apply]
    exact lit_zero
  have m : val_main_call0_v1 (F := Ideal) (ix3 (n0 := 4) (n1 := 2048) (n2 := 2048) a b n) = (⊥ : EReal) := by
    rw [val_main_call0_v1_apply]
    exact lit_bot
  rw [val_main_v36_apply, val_main_v35_apply, z, m, hw]
  refine (sel_oeq _ _ _ _).trans ?_
  unfold masked
  by_cases h : P n
  · rw [mask_hit q k p a b n ((hp n).mp h), if_pos h, if_neg one_ne_zero]
  · rw [mask_miss q k p a b n (fun e => h ((hp n).mpr e)), if_neg h, if_pos rfl]

theorem top_at (hs : ∀ n, val_main_v36 (F := Ideal) q k p (ix3 (n0 := 4) (n1 := 2048) (n2 := 2048) a b n) = masked P w n) :
    val_main_v39 (F := Ideal) q k p (ix2 (n0 := 4) (n1 := 2048) a b) = max ⊥ (Finset.fold max ⊥ (masked P w) Finset.univ) := by
  have h37 : val_main_v37 (F := Ideal) q k p (ix2 (n0 := 4) (n1 := 2048) a b)
      = Finset.fold max (lit 0xFF800000#32) (fun n : Fin 2048 => val_main_v36 (F := Ideal) q k p (ix3 (n0 := 4) (n1 := 2048) (n2 := 2048) a b n)) Finset.univ := by
    unfold val_main_v37
    pointwise
    rfl
  rw [val_main_v39_apply, val_main_v38_apply, h37, lit_bot]
  refine congrArg₂ max lit_bot ?_
  exact congrArg (fun f => Finset.fold max ⊥ f Finset.univ) (funext hs)

/-- The softmax of a row. -/
theorem softmax_at (hs : ∀ n, val_main_v36 (F := Ideal) q k p (ix3 (n0 := 4) (n1 := 2048) (n2 := 2048) a b n) = masked P w n)
    (hne : ∃ n, P n) (n : Fin 2048) :
    val_main_v47 (F := Ideal) q k p (ix3 (n0 := 4) (n1 := 2048) (n2 := 2048) a b n) = ((share P w n : ℝ) : EReal) := by
  obtain ⟨r, hr⟩ := top_real P w hne
  have h41 : ∀ m : Fin 2048, val_main_v41 (F := Ideal) q k p (ix3 (n0 := 4) (n1 := 2048) (n2 := 2048) a b m) = (r : EReal) := by
    intro m
    rw [val_main_v41_apply, val_main_v40_apply]
    have e : idx_main_v40 (idx_main_v41 (ix3 (n0 := 4) (n1 := 2048) (n2 := 2048) a b m)) = ix2 (n0 := 4) (n1 := 2048) a b := by
      funext c
      match c with
      | ⟨0, _⟩ => rfl
      | ⟨1, _⟩ => rfl
    rw [e, top_at q k p a b P w hs, hr]
  have h43 : ∀ m : Fin 2048, val_main_v43 (F := Ideal) q k p (ix3 (n0 := 4) (n1 := 2048) (n2 := 2048) a b m) = Ideal.exp (masked P w m - (r : EReal)) := by
    intro m
    rw [val_main_v43_apply, val_main_v42_apply, hs, h41]
    rfl
  have h46 : val_main_v46 (F := Ideal) q k p (ix3 (n0 := 4) (n1 := 2048) (n2 := 2048) a b n) = ∑ m, Ideal.exp (masked P w m - (r : EReal)) := by
    rw [val_main_v46_apply, val_main_v45_apply, val_main_v44_apply]
    refine (congrArg₂ (fun x y : EReal => x + y) lit_zero ?_).trans (zero_add _)
    refine Finset.sum_congr rfl fun m _ => ?_
    rw [← h43 m]
    refine congrArg (val_main_v43 (F := Ideal) q k p) ?_
    funext c
    match c with
    | ⟨0, _⟩ => rfl
    | ⟨1, _⟩ => rfl
    | ⟨2, _⟩ => rfl
  rw [val_main_v47_apply, h43, h46]
  exact shifted P w hne r n

/-- The clean-up that follows the softmax changes nothing here. -/
theorem cleaned (i : S4x2048x2048.Idx) (x : ℝ) (h : val_main_v47 (F := Ideal) q k p i = (x : EReal)) :
    val_main_v48 (F := Ideal) q k p i = (x : EReal) := by
  have h2 : val_main_call1_v2 (F := Ideal) q k p i = (x : EReal) := by
    rw [val_main_call1_v2_apply, val_main_call1_v0_apply, h]
    exact sel_une _ _ _
  have h3 : val_main_call1_v3 (F := Ideal) i = (⊤ : EReal) := by
    rw [val_main_call1_v3_apply]
    exact lit_top
  have h5 : val_main_call1_v5 (F := Ideal) q k p i = (x : EReal) := by
    rw [val_main_call1_v5_apply, val_main_call1_v4_apply, h2, h3]
    exact (sel_oeq _ _ _ _).trans (if_neg (EReal.coe_ne_top x))
  have h6 : val_main_call1_v6 (F := Ideal) i = (⊥ : EReal) := by
    rw [val_main_call1_v6_apply]
    exact lit_bot
  rw [val_main_v48_apply, val_main_call1_v7_apply, h5, h6]
  exact (sel_oeq _ _ _ _).trans (if_neg (EReal.coe_ne_bot x))

/-- An entry of the reference's output: the shares of its row against a column of the values. -/
theorem reference_at (hp : ∀ n, P n ↔ ∃ r, pick (simR q k p a b) r = n)
    (hw : ∀ n, val_main_v33 (F := Ideal) q k (ix3 (n0 := 4) (n1 := 2048) (n2 := 2048) a b n) = (w n : EReal)) (hne : ∃ n, P n) (c : Fin 1024) :
    val_main_v49 (F := Ideal) q k v p (ix3 (n0 := 4) (n1 := 2048) (n2 := 1024) a b c)
      = ∑ n : Fin 2048, ((share P w n : ℝ) : EReal) * v (ix3 (n0 := 4) (n1 := 2048) (n2 := 1024) a n c) := by
  rw [val_main_v49_apply]
  refine Finset.sum_congr rfl fun n _ => ?_
  have el : lidx_main_v49 (ix3 (n0 := 4) (n1 := 2048) (n2 := 1024) a b c) n = ix3 (n0 := 4) (n1 := 2048) (n2 := 2048) a b n := by
    funext d
    match d with
    | ⟨0, _⟩ => rfl
    | ⟨1, _⟩ => rfl
    | ⟨2, _⟩ => rfl
  have er : ridx_main_v49 (ix3 (n0 := 4) (n1 := 2048) (n2 := 1024) a b c) n = ix3 (n0 := 4) (n1 := 2048) (n2 := 1024) a n c := by
    funext d
    match d with
    | ⟨0, _⟩ => rfl
    | ⟨1, _⟩ => rfl
    | ⟨2, _⟩ => rfl
  rw [el, er, cleaned q k p _ _ (softmax_at q k p a b P w (scores_at q k p a b P w hp hw) hne n)]

/-- The scores before the mask, for real queries and keys. -/
theorem score_at (n : Fin 2048) : val_main_v33 (F := Ideal) q k (ix3 (n0 := 4) (n1 := 2048) (n2 := 2048) a b n)
    = Ideal.div (∑ e : Fin 1024, q (ix3 (n0 := 4) (n1 := 2048) (n2 := 1024) a b e) * k (ix3 (n0 := 4) (n1 := 2048) (n2 := 1024) a n e)) (lit 0x42000000#32) := by
  rw [val_main_v33_apply, val_main_v31_apply, val_main_v32_apply]
  refine congrArg (fun x => Ideal.div x (lit 0x42000000#32)) (Finset.sum_congr rfl fun e _ => congrArg₂ (fun x y => q x * k y) ?_ ?_)
  all_goals
    funext d
    match d with
    | ⟨0, _⟩ => rfl
    | ⟨1, _⟩ => rfl
    | ⟨2, _⟩ => rfl

/-- The similarities of a row. -/
theorem simR_at (n : Fin 2048) : simR q k p a b n
    = ∑ d : Fin 32, (∑ e : Fin 1024, q (ix3 (n0 := 4) (n1 := 2048) (n2 := 1024) a b e) * p (ix2 (n0 := 1024) (n1 := 32) e d))
      * (∑ e : Fin 1024, k (ix3 (n0 := 4) (n1 := 2048) (n2 := 1024) a n e) * p (ix2 (n0 := 1024) (n1 := 32) e d)) := by
  unfold simR val_main_v2 val_main_v0 val_main_v1
  pointwise

end Cert.ReferenceIdeal.Picks
-- ==== Proof.MaskRow.lean ====
module

public import proofs.«01_k».proof.On_search_converged
public import proofs.«01_k».proof.Proof.Search
public import Idealize.ShloMosaic.Lib.Pointwise
public import Idealize.ShloMosaic.Lib.KernelVsHost

@[expose] public section

set_option maxRecDepth 16384

noncomputable section

/-! # The mask, read row by row

The rows on which the claim is made are those where the search ends with exactly 204 entries at or above
its threshold. The mask runs the search on whole arrays; here it is read at one row, where it is the
search of `Cert.Search`. -/

namespace Cert.On_search_converged

open Cert.Search
open Idealize.ShloMosaic

variable [Facts]
open Facts

/-- The similarities of one row. -/
abbrev row (v4 : FVec Ideal S4x2048x2048 .f32) (j : S4x2048.Idx) : Fin 2048 → EReal :=
  fun k => v4 (ix3 (n0 := 4) (n1 := 2048) (n2 := 2048) (j 0) (j 1) k)

/-- A bit read as a number. -/
theorem bit_toNat (p : Prop) [Decidable p] : (((BitVec.ofBool (decide p)).toNat : ℝ) : EReal) = if p then 1 else 0 := by
  by_cases h : p <;> simp [h]

/-- For each row, how many entries reach that row's threshold, -/
theorem countOf_eq (v4 : FVec Ideal S4x2048x2048 .f32) (t : FVec Ideal S4x2048 .f32) :
    (Host.reduceAdd (uitofp .f32 (cmpf .oge v4 (broadcastInDim S4x2048x2048 ![0, 1] bcast_S4x2048_S4x2048x2048_0_1 t))) (constant S_ .f32 0x00000000#32) reducesTo_S4x2048x2048_S4x2048_d2 h_S_ : FVec Ideal S4x2048 .f32)
      = fun j => cnt (row v4 j) (t j) := by
  funext j
  pointwise
  exact Finset.sum_congr rfl fun k _ => bit_toNat _

/-- and the largest entry below it. -/
theorem belowOf_eq (v4 : FVec Ideal S4x2048x2048 .f32) (t : FVec Ideal S4x2048 .f32) :
    (Host.reduce FloatOps.maximumf (select (cmpf .olt v4 (broadcastInDim S4x2048x2048 ![0, 1] bcast_S4x2048_S4x2048x2048_0_1 t)) v4 (broadcastInDim S4x2048x2048 ![] bcast_S_S4x2048x2048 (constant S_ .f32 0xFF7FC99E#32))) (constant S_ .f32 0xFF800000#32) reducesTo_S4x2048x2048_S4x2048_d2 h_S_ : FVec Ideal S4x2048 .f32)
      = fun j => below (row v4 j) (t j) := by
  funext j
  pointwise
  rfl

/-- The complement of a bit is its exclusive-or with one. -/
theorem not_eq {s : Shape} (x : IVec s 1) : noti x = fun j => IntOp.xori (x j) 1#1 :=
  funext fun j => (xori_one_eq_not (x j)).symm

/-- The bracket each row starts from, given the means and the deviations. -/
def begin (m d : FVec Ideal S4x2048 .f32) (j : S4x2048.Idx) : St :=
  start (m j + lit 0x3F90A3D7#32 * d j) (m j + lit 0x3FB70A3D#32 * d j)

/-! ## The parts of the mask, one after another

Each says what the values handed to the next part are, in terms of the bracket of every row. -/

theorem part1 (v4 : FVec Ideal S4x2048x2048 .f32) (m d z : FVec Ideal S4x2048 .f32) (hz : z = fun j => m j + lit 0x3F90A3D7#32 * d j) :
    fn_part1 (F := Ideal) v4 m d z
      = fn_part2 (F := Ideal) v4 (fun j => (begin m d j).lo) (fun j => (begin m d j).hi) (fun j => (begin m d j).flo) (fun j => (begin m d j).fhi) (fun j => (begin m d j).above) (fun j => (begin m d j).side) (fun j => guess (begin m d j)) (fun j => Search.count (row v4 j) (begin m d j)) (fun _ => lit 0x434C0000#32) := by
  subst hz
  unfold fn_part1
  dsimp only
  rw [countOf_eq]
  rfl

theorem part2 (v4 : FVec Ideal S4x2048x2048 .f32) (S : S4x2048.Idx → St) :
    fn_part2 (F := Ideal) v4 (fun j => (S j).lo) (fun j => (S j).hi) (fun j => (S j).flo) (fun j => (S j).fhi) (fun j => (S j).above) (fun j => (S j).side) (fun j => guess (S j)) (fun j => Search.count (row v4 j) (S j)) (fun _ => lit 0x434C0000#32)
      = fn_part3 (F := Ideal) v4 (fun j => (S j).above) (fun j => Search.count (row v4 j) (S j)) (fun j => excess (row v4 j) (S j)) (fun j => enough (row v4 j) (S j)) (fun j => halvedHi (row v4 j) (S j)) (fun j => (next (row v4 j) (S j)).lo) (fun j => (next (row v4 j) (S j)).hi) (fun j => (next (row v4 j) (S j)).flo) := by
  unfold fn_part2
  dsimp only
  rw [not_eq]
  rfl

theorem part3 (v4 : FVec Ideal S4x2048x2048 .f32) (S : S4x2048.Idx → St) :
    fn_part3 (F := Ideal) v4 (fun j => (S j).above) (fun j => Search.count (row v4 j) (S j)) (fun j => excess (row v4 j) (S j)) (fun j => enough (row v4 j) (S j)) (fun j => halvedHi (row v4 j) (S j)) (fun j => (next (row v4 j) (S j)).lo) (fun j => (next (row v4 j) (S j)).hi) (fun j => (next (row v4 j) (S j)).flo)
      = fn_part4 (F := Ideal) v4 (fun j => (next (row v4 j) (S j)).lo) (fun j => (next (row v4 j) (S j)).hi) (fun j => (next (row v4 j) (S j)).flo) (fun j => (next (row v4 j) (S j)).fhi) (fun j => (next (row v4 j) (S j)).above) (fun j => (next (row v4 j) (S j)).side) (fun j => guess (next (row v4 j) (S j))) (fun j => Search.count (row v4 j) (next (row v4 j) (S j))) (fun j => excess (row v4 j) (next (row v4 j) (S j))) (fun j => enough (row v4 j) (next (row v4 j) (S j))) (constant S_ .f32 0x00000000#32) := by
  unfold fn_part3
  dsimp only
  rw [countOf_eq]
  rfl

theorem part4 (v4 : FVec Ideal S4x2048x2048 .f32) (S : S4x2048.Idx → St) :
    fn_part4 (F := Ideal) v4 (fun j => (S j).lo) (fun j => (S j).hi) (fun j => (S j).flo) (fun j => (S j).fhi) (fun j => (S j).above) (fun j => (S j).side) (fun j => guess (S j)) (fun j => Search.count (row v4 j) (S j)) (fun j => excess (row v4 j) (S j)) (fun j => enough (row v4 j) (S j)) (constant S_ .f32 0x00000000#32)
      = fn_part5 (F := Ideal) v4 (fun j => enough (row v4 j) (S j)) (fun j => (next (row v4 j) (S j)).lo) (fun j => (next (row v4 j) (S j)).hi) (fun j => (next (row v4 j) (S j)).flo) (fun j => (next (row v4 j) (S j)).fhi) (fun j => (next (row v4 j) (S j)).above) (fun _ => lit 0x3F800000#32) (constant S_ .f32 0xBF800000#32) := by
  unfold fn_part4
  dsimp only
  rw [not_eq]
  rfl

theorem part5 (v4 : FVec Ideal S4x2048x2048 .f32) (S : S4x2048.Idx → St) :
    fn_part5 (F := Ideal) v4 (fun j => enough (row v4 j) (S j)) (fun j => (next (row v4 j) (S j)).lo) (fun j => (next (row v4 j) (S j)).hi) (fun j => (next (row v4 j) (S j)).flo) (fun j => (next (row v4 j) (S j)).fhi) (fun j => (next (row v4 j) (S j)).above) (fun _ => lit 0x3F800000#32) (constant S_ .f32 0xBF800000#32)
      = fn_part6 (F := Ideal) v4 (fun j => (next (row v4 j) (S j)).lo) (fun j => (next (row v4 j) (S j)).hi) (fun j => (next (row v4 j) (S j)).flo) (fun j => (next (row v4 j) (S j)).fhi) (fun j => (next (row v4 j) (S j)).above) (fun j => (next (row v4 j) (S j)).side) (fun j => guess (next (row v4 j) (S j))) (fun j => Search.count (row v4 j) (next (row v4 j) (S j))) (fun j => excess (row v4 j) (next (row v4 j) (S j))) (fun j => enough (row v4 j) (next (row v4 j) (S j))) (fun j => IntOp.andi (enough (row v4 j) (next (row v4 j) (S j))) (wasLo (next (row v4 j) (S j)))) (fun _ => lit 0x3F000000#32) := by
  unfold fn_part5
  dsimp only
  rw [countOf_eq]
  rfl

theorem part6 (v4 : FVec Ideal S4x2048x2048 .f32) (S : S4x2048.Idx → St) :
    fn_part6 (F := Ideal) v4 (fun j => (S j).lo) (fun j => (S j).hi) (fun j => (S j).flo) (fun j => (S j).fhi) (fun j => (S j).above) (fun j => (S j).side) (fun j => guess (S j)) (fun j => Search.count (row v4 j) (S j)) (fun j => excess (row v4 j) (S j)) (fun j => enough (row v4 j) (S j)) (fun j => IntOp.andi (enough (row v4 j) (S j)) (wasLo (S j))) (fun _ => lit 0x3F000000#32)
      = fn_part7 (F := Ideal) v4 (fun j => (next (row v4 j) (S j)).lo) (fun j => (next (row v4 j) (S j)).hi) (fun j => (next (row v4 j) (S j)).flo) (fun j => (next (row v4 j) (S j)).fhi) (fun j => (next (row v4 j) (S j)).above) (fun j => (next (row v4 j) (S j)).side) (fun j => num (next (row v4 j) (S j))) := by
  unfold fn_part6
  dsimp only
  rw [not_eq]
  rfl

theorem part7 (v4 : FVec Ideal S4x2048x2048 .f32) (S : S4x2048.Idx → St) :
    fn_part7 (F := Ideal) v4 (fun j => (S j).lo) (fun j => (S j).hi) (fun j => (S j).flo) (fun j => (S j).fhi) (fun j => (S j).above) (fun j => (S j).side) (fun j => num (S j))
      = fn_part8 (F := Ideal) v4 (fun j => (S j).lo) (fun j => (S j).hi) (fun j => (S j).flo) (fun j => (S j).above) (fun j => (S j).side) (fun j => guess (S j)) (fun j => Search.count (row v4 j) (S j)) (fun j => excess (row v4 j) (S j)) (fun j => enough (row v4 j) (S j)) (fun j => halvedHi (row v4 j) (S j)) (fun j => IntOp.xori (enough (row v4 j) (S j)) 1#1) (fun _ => lit 0x00000000#32) := by
  unfold fn_part7
  dsimp only
  rw [countOf_eq, not_eq]
  rfl

theorem part8 (v4 : FVec Ideal S4x2048x2048 .f32) (S : S4x2048.Idx → St) :
    fn_part8 (F := Ideal) v4 (fun j => (S j).lo) (fun j => (S j).hi) (fun j => (S j).flo) (fun j => (S j).above) (fun j => (S j).side) (fun j => guess (S j)) (fun j => Search.count (row v4 j) (S j)) (fun j => excess (row v4 j) (S j)) (fun j => enough (row v4 j) (S j)) (fun j => halvedHi (row v4 j) (S j)) (fun j => IntOp.xori (enough (row v4 j) (S j)) 1#1) (fun _ => lit 0x00000000#32)
      = fn_part9 (F := Ideal) v4 (fun j => (next (row v4 j) (S j)).lo) (fun j => (next (row v4 j) (S j)).hi) (fun j => (next (row v4 j) (S j)).flo) (fun j => (next (row v4 j) (S j)).fhi) (fun j => (next (row v4 j) (S j)).above) (fun j => (next (row v4 j) (S j)).side) (fun j => guess (next (row v4 j) (S j))) (uitofp .f32 (cmpf .oge v4 (broadcastInDim S4x2048x2048 ![0, 1] bcast_S4x2048_S4x2048x2048_0_1 (fun j => guess (next (row v4 j) (S j)))))) := by
  unfold fn_part8
  dsimp only
  rfl

theorem part9 (v4 : FVec Ideal S4x2048x2048 .f32) (S : S4x2048.Idx → St) :
    fn_part9 (F := Ideal) v4 (fun j => (S j).lo) (fun j => (S j).hi) (fun j => (S j).flo) (fun j => (S j).fhi) (fun j => (S j).above) (fun j => (S j).side) (fun j => guess (S j)) (uitofp .f32 (cmpf .oge v4 (broadcastInDim S4x2048x2048 ![0, 1] bcast_S4x2048_S4x2048x2048_0_1 (fun j => guess (S j)))))
      = fn_part10 (F := Ideal) v4 (fun j => (S j).lo) (fun j => (S j).hi) (fun j => (S j).flo) (fun j => (S j).above) (fun j => guess (S j)) (fun j => Search.count (row v4 j) (S j)) (fun j => excess (row v4 j) (S j)) (fun j => enough (row v4 j) (S j)) (fun j => halvedHi (row v4 j) (S j)) (fun j => IntOp.andi (IntOp.xori (enough (row v4 j) (S j)) 1#1) (wasHi (S j))) (fun j => (S j).flo * lit 0x3F000000#32) := by
  unfold fn_part9
  dsimp only
  rw [countOf_eq, not_eq]
  rfl

theorem part10 (v4 : FVec Ideal S4x2048x2048 .f32) (S : S4x2048.Idx → St) :
    fn_part10 (F := Ideal) v4 (fun j => (S j).lo) (fun j => (S j).hi) (fun j => (S j).flo) (fun j => (S j).above) (fun j => guess (S j)) (fun j => Search.count (row v4 j) (S j)) (fun j => excess (row v4 j) (S j)) (fun j => enough (row v4 j) (S j)) (fun j => halvedHi (row v4 j) (S j)) (fun j => IntOp.andi (IntOp.xori (enough (row v4 j) (S j)) 1#1) (wasHi (S j))) (fun j => (S j).flo * lit 0x3F000000#32)
      = fn_part11 (F := Ideal) v4 (fun j => (next (row v4 j) (S j)).lo) (fun j => (next (row v4 j) (S j)).hi) (fun j => (next (row v4 j) (S j)).flo) (fun j => (next (row v4 j) (S j)).fhi) (fun j => (next (row v4 j) (S j)).above) (fun j => (next (row v4 j) (S j)).side) (fun j => guess (next (row v4 j) (S j))) (fun j => Search.count (row v4 j) (next (row v4 j) (S j))) (fun j => excess (row v4 j) (next (row v4 j) (S j))) := by
  unfold fn_part10
  dsimp only
  rw [countOf_eq]
  rfl

theorem part11 (v4 : FVec Ideal S4x2048x2048 .f32) (S : S4x2048.Idx → St) :
    fn_part11 (F := Ideal) v4 (fun j => (S j).lo) (fun j => (S j).hi) (fun j => (S j).flo) (fun j => (S j).fhi) (fun j => (S j).above) (fun j => (S j).side) (fun j => guess (S j)) (fun j => Search.count (row v4 j) (S j)) (fun j => excess (row v4 j) (S j))
      = fn_part12 (F := Ideal) v4 (fun j => (S j).above) (fun j => Search.count (row v4 j) (S j)) (fun j => enough (row v4 j) (S j)) (fun j => (next (row v4 j) (S j)).lo) (fun j => (next (row v4 j) (S j)).hi) (fun j => (next (row v4 j) (S j)).flo) (fun j => (next (row v4 j) (S j)).fhi) := by
  unfold fn_part11
  dsimp only
  rw [not_eq]
  rfl

theorem part12 (v4 : FVec Ideal S4x2048x2048 .f32) (S : S4x2048.Idx → St) :
    fn_part12 (F := Ideal) v4 (fun j => (S j).above) (fun j => Search.count (row v4 j) (S j)) (fun j => enough (row v4 j) (S j)) (fun j => (next (row v4 j) (S j)).lo) (fun j => (next (row v4 j) (S j)).hi) (fun j => (next (row v4 j) (S j)).flo) (fun j => (next (row v4 j) (S j)).fhi)
      = fn_part13 (F := Ideal) v4 (fun j => (next (row v4 j) (S j)).lo) (fun j => (next (row v4 j) (S j)).hi) (fun j => (next (row v4 j) (S j)).flo) (fun j => (next (row v4 j) (S j)).fhi) (fun j => (next (row v4 j) (S j)).above) (fun j => (next (row v4 j) (S j)).side) (fun j => guess (next (row v4 j) (S j))) (fun j => Search.count (row v4 j) (next (row v4 j) (S j))) (fun j => excess (row v4 j) (next (row v4 j) (S j))) (fun j => enough (row v4 j) (next (row v4 j) (S j))) (fun _ => lit 0x00000000#32) := by
  unfold fn_part12
  dsimp only
  rw [countOf_eq]
  rfl

theorem part13 (v4 : FVec Ideal S4x2048x2048 .f32) (S : S4x2048.Idx → St) :
    fn_part13 (F := Ideal) v4 (fun j => (S j).lo) (fun j => (S j).hi) (fun j => (S j).flo) (fun j => (S j).fhi) (fun j => (S j).above) (fun j => (S j).side) (fun j => guess (S j)) (fun j => Search.count (row v4 j) (S j)) (fun j => excess (row v4 j) (S j)) (fun j => enough (row v4 j) (S j)) (fun _ => lit 0x00000000#32)
      = fn_part14 (F := Ideal) v4 (fun j => enough (row v4 j) (S j)) (fun j => (next (row v4 j) (S j)).lo) (fun j => (next (row v4 j) (S j)).hi) (fun j => (next (row v4 j) (S j)).above) (fun _ => lit 0x3F800000#32) (fun _ => lit 0xBF800000#32) := by
  unfold fn_part13
  dsimp only
  rfl

/-- The last parts: the threshold from the bracket, and the count there. -/
theorem part14 (v4 : FVec Ideal S4x2048x2048 .f32) (S : S4x2048.Idx → St) (b : IVec S4x2048 1) (x y : FVec Ideal S4x2048 .f32) :
    fn_part14 (F := Ideal) v4 b (fun j => (S j).lo) (fun j => (S j).hi) (fun j => (S j).above) x y
      = broadcastInDim S4x2048x1024 ![0, 1] bcast_S4x2048_S4x2048x1024_0_1
          (fun j => Ideal.cmp .oeq (cnt (row v4 j) (snap (row v4 j) (S j))) (lit 0x434C0000#32)) := by
  unfold fn_part14 fn_part15
  dsimp only
  rw [belowOf_eq, belowOf_eq, countOf_eq]
  rfl

/-- The search, run on whole arrays from given means and deviations. -/
theorem search_eq (v4 : FVec Ideal S4x2048x2048 .f32) (m d z : FVec Ideal S4x2048 .f32) (hz : z = fun j => m j + lit 0x3F90A3D7#32 * d j) :
    fn_part1 (F := Ideal) v4 m d z
      = broadcastInDim S4x2048x1024 ![0, 1] bcast_S4x2048_S4x2048x1024_0_1
          (fun j => Ideal.cmp .oeq (cnt (row v4 j) (thr (row v4 j) (m j) (d j))) (lit 0x434C0000#32)) := by
  rw [part1 v4 m d z hz, part2, part3, part4, part5, part6, part7, part8, part9, part10, part11, part12, part13, part14]
  rfl

end Cert.On_search_converged
-- ==== Proof.MaskRead.lean ====
module

public import proofs.«01_k».proof.Proof.MaskRow
public import proofs.«01_k».proof.Proof.Moments

@[expose] public section

set_option maxRecDepth 16384

noncomputable section

/-! # What the mask says of one row

The similarities of a row, their mean and their deviation as the mask computes them, and what it means
that a result lies in the mask. -/

namespace Cert.On_search_converged

open Cert.Search
open Idealize.ShloMosaic

variable [Facts]
open Facts

/-- The similarities of all rows, -/
def sims (q k : FVec Ideal S4x2048x1024 .f32) (p : FVec Ideal S1024x32 .f32) : FVec Ideal S4x2048x2048 .f32 :=
  Host.divf
    (Host.dotGeneral dot_S4x2048x32_S4x2048x32_S4x2048x2048_2_2_1_1_0_0 none
      (Host.dotGeneral dot_S4x2048x1024_S1024x32_S4x2048x32_2_0_01_1_n_n none q p)
      (Host.dotGeneral dot_S4x2048x1024_S1024x32_S4x2048x32_2_0_01_1_n_n none k p))
    (broadcastInDim S4x2048x2048 ![] bcast_S_S4x2048x2048 (constant S_ .f32 0x42000000#32))

/-- their means, -/
def means (v4 : FVec Ideal S4x2048x2048 .f32) : FVec Ideal S4x2048 .f32 :=
  Host.divf (Host.reduceAdd v4 (constant S_ .f32 0x00000000#32) reducesTo_S4x2048x2048_S4x2048_d2 h_S_)
    (broadcastInDim S4x2048 ![] bcast_S_S4x2048 (constant S_ .f32 0x45000000#32))

/-- each entry's distance from its row's mean, -/
def apart (v4 : FVec Ideal S4x2048x2048 .f32) : FVec Ideal S4x2048x2048 .f32 :=
  subf v4 (broadcastInDim S4x2048x2048 ![0, 1] bcast_S4x2048_S4x2048x2048_0_1 (means v4))

/-- and the deviations. -/
def devs (v4 : FVec Ideal S4x2048x2048 .f32) : FVec Ideal S4x2048 .f32 :=
  Host.sqrt (Host.divf (Host.reduceAdd (mulf (apart v4) (apart v4)) (constant S_ .f32 0x00000000#32) reducesTo_S4x2048x2048_S4x2048_d2 h_S_)
    (broadcastInDim S4x2048 ![] bcast_S_S4x2048 (constant S_ .f32 0x45000000#32)))

theorem fn_eq (q k v : FVec Ideal S4x2048x1024 .f32) (p : FVec Ideal S1024x32 .f32) :
    fn (F := Ideal) q k v p
      = broadcastInDim S4x2048x1024 ![0, 1] bcast_S4x2048_S4x2048x1024_0_1
          (fun j => Ideal.cmp .oeq (cnt (row (sims q k p) j) (thr (row (sims q k p) j) (means (sims q k p) j) (devs (sims q k p) j))) (lit 0x434C0000#32)) :=
  search_eq (sims q k p) (means (sims q k p)) (devs (sims q k p)) _ rfl

/-- The similarity of one query and one key. -/
def simAt (q k : FVec Ideal S4x2048x1024 .f32) (p : FVec Ideal S1024x32 .f32) (a : Fin 4) (b n : Fin 2048) : EReal :=
  Ideal.div (∑ d : Fin 32, (∑ e : Fin 1024, q (ix3 (n0 := 4) (n1 := 2048) (n2 := 1024) a b e) * p (ix2 (n0 := 1024) (n1 := 32) e d)) *
    (∑ e : Fin 1024, k (ix3 (n0 := 4) (n1 := 2048) (n2 := 1024) a n e) * p (ix2 (n0 := 1024) (n1 := 32) e d))) (lit 0x42000000#32)

theorem sims_apply (q k : FVec Ideal S4x2048x1024 .f32) (p : FVec Ideal S1024x32 .f32) (a : Fin 4) (b n : Fin 2048) :
    sims q k p (ix3 (n0 := 4) (n1 := 2048) (n2 := 2048) a b n) = simAt q k p a b n := by
  unfold sims simAt
  pointwise

theorem means_apply (v4 : FVec Ideal S4x2048x2048 .f32) (a : Fin 4) (b : Fin 2048) :
    means v4 (ix2 (n0 := 4) (n1 := 2048) a b) = mean fun n => v4 (ix3 (n0 := 4) (n1 := 2048) (n2 := 2048) a b n) := by
  unfold means mean
  pointwise

theorem apart_apply (v4 : FVec Ideal S4x2048x2048 .f32) (a : Fin 4) (b n : Fin 2048) :
    apart v4 (ix3 (n0 := 4) (n1 := 2048) (n2 := 2048) a b n)
      = v4 (ix3 (n0 := 4) (n1 := 2048) (n2 := 2048) a b n) - mean fun n => v4 (ix3 (n0 := 4) (n1 := 2048) (n2 := 2048) a b n) := by
  rw [← means_apply]
  unfold apart
  pointwise

theorem devs_apply (v4 : FVec Ideal S4x2048x2048 .f32) (a : Fin 4) (b : Fin 2048) :
    devs v4 (ix2 (n0 := 4) (n1 := 2048) a b) = dev fun n => v4 (ix3 (n0 := 4) (n1 := 2048) (n2 := 2048) a b n) := by
  unfold devs dev
  pointwise
  simp only [apart_apply]

theorem eq_of_oeq {x y : EReal} (h : Ideal.cmp .oeq x y = 1#1) : x = y := by
  by_contra hn
  simp [Ideal.cmp, hn] at h

/-- A bit of every row, repeated along the results of the row. -/
theorem spread_apply (f : IVec S4x2048 1) (a : Fin 4) (b : Fin 2048) (c : Fin 1024) :
    broadcastInDim S4x2048x1024 ![0, 1] bcast_S4x2048_S4x2048x1024_0_1 f (ix3 (n0 := 4) (n1 := 2048) (n2 := 1024) a b c)
      = f (ix2 (n0 := 4) (n1 := 2048) a b) := by
  pointwise

/-- A result in the mask belongs to a row where exactly 204 entries reach the threshold. -/
theorem count_of_mask (q k v : FVec Ideal S4x2048x1024 .f32) (p : FVec Ideal S1024x32 .f32) (a : Fin 4) (b : Fin 2048) (c : Fin 1024)
    (h : fn (F := Ideal) q k v p (ix3 (n0 := 4) (n1 := 2048) (n2 := 1024) a b c) = 1#1) :
    cnt (simAt q k p a b) (thr (simAt q k p a b) (mean (simAt q k p a b)) (dev (simAt q k p a b))) = lit 0x434C0000#32 := by
  rw [fn_eq, spread_apply] at h
  have e : (fun n => sims q k p (ix3 (n0 := 4) (n1 := 2048) (n2 := 2048) a b n)) = simAt q k p a b :=
    funext fun n => sims_apply q k p a b n
  have hm := (means_apply (sims q k p) a b).trans (congrArg mean e)
  have hd := (devs_apply (sims q k p) a b).trans (congrArg dev e)
  have h' := eq_of_oeq h
  rw [hm, hd, show row (sims q k p) (ix2 (n0 := 4) (n1 := 2048) a b) = simAt q k p a b from e] at h'
  exact h'

end Cert.On_search_converged
-- ==== Proof.Bottom.lean ====
module

public import proofs.«01_k».proof.Proof.Moments

@[expose] public section

set_option maxRecDepth 16384

noncomputable section

/-! # A row with an entry that is minus infinity

Its mean is minus infinity, the search starts and stays there, and all 2048 entries reach the threshold. -/

namespace Cert.Search

open Idealize.ShloMosaic

variable (s : Fin 2048 → EReal)

theorem cnt_bot : cnt s ⊥ = ((2048 : ℝ) : EReal) := by
  have h : cnt s ⊥ = ((∑ _n : Fin 2048, (1 : ℝ) : ℝ) : EReal) := by
    rw [cnt, coe_sum]
    exact Finset.sum_congr rfl fun n _ => by rw [if_pos bot_le, EReal.coe_one]
  rw [h]
  simp

/-- Both ends at minus infinity, a positive excess below, a negative one above, and 156 counted there. -/
def Low (c : St) : Prop :=
  c.lo = ⊥ ∧ c.hi = ⊥ ∧ (∃ u : ℝ, 0 < u ∧ c.flo = u) ∧ (∃ w : ℝ, w < 0 ∧ c.fhi = w) ∧ c.above = lit 0x431C0000#32

theorem guess_low (c : St) (h : Low c) : guess c = ⊥ := by
  obtain ⟨hl, hh, ⟨u, hu, eu⟩, ⟨w, hw, ew⟩, _⟩ := h
  rw [guess, num, hl, hh, eu, ew, EReal.bot_mul_coe_of_neg hw, EReal.bot_mul_coe_of_pos hu, ← EReal.coe_sub,
    Ideal.div_coe (by linarith), sub_eq_add_neg, EReal.neg_bot, EReal.top_add_top]
  exact EReal.top_mul_coe_of_neg (one_div_neg.mpr (by linarith))

theorem next_low (c : St) (h : Low c) : Low (next s c) := by
  have hg := guess_low c h
  obtain ⟨hl, hh, ⟨u, hu, eu⟩, ⟨w, hw, ew⟩, ha⟩ := h
  have hx : excess s c = ((1844 : ℝ) : EReal) := by
    rw [excess, count, hg, cnt_bot, lit_204, ← EReal.coe_sub]
    norm_num
  have he : enough s c = 1#1 := by
    rw [enough, hx, lit_zero]
    exact congrArg BitVec.ofBool (decide_eq_true (show (0 : EReal) ≤ ((1844 : ℝ) : EReal) from EReal.coe_nonneg.mpr (by norm_num)))
  have sel : ∀ x y : EReal, Scalar.select (enough s c) x y = x := fun x y => by rw [he]; rfl
  refine ⟨(sel _ _).trans hg, (sel _ _).trans hh, ⟨1844, by norm_num, (sel _ _).trans hx⟩, ?_, (sel _ _).trans ha⟩
  show ∃ w : ℝ, w < 0 ∧ Scalar.select (enough s c) (halvedHi s c) (excess s c) = w
  rw [sel, halvedHi, Scalar.select]
  split
  · exact ⟨w * (1 / 2), by linarith, by rw [ew, lit_half, EReal.coe_mul]⟩
  · exact ⟨w, hw, ew⟩

theorem snap_low (c : St) (h : Low c) : snap s c = ⊥ := by
  obtain ⟨hl, _, _, _, ha⟩ := h
  have hm : missing c = ((48 : ℝ) : EReal) := by
    rw [missing, ha, lit_204, lit_156, ← EReal.coe_sub]
    norm_num
  have no : ∀ (r : ℝ), (48 : ℝ) ≠ r → Ideal.cmp .oeq (missing c) (r : EReal) = 0#1 := fun r hr => by
    rw [hm]
    exact congrArg BitVec.ofBool (decide_eq_false fun e => hr (EReal.coe_eq_coe_iff.mp e))
  rw [snap, lit_two, lit_one, no 2 (by norm_num), no 1 (by norm_num)]
  exact hl

/-- The threshold of such a row, -/
theorem thr_low (u : EReal) : thr s ⊥ u = ⊥ := by
  have h : Low (start ⊥ ⊥) := ⟨rfl, rfl, ⟨61, by norm_num, lit_61⟩, ⟨-48, by norm_num, lit_neg48⟩, rfl⟩
  rw [thr, EReal.bot_add, EReal.bot_add]
  refine snap_low s _ ?_
  exact Function.Iterate.rec (motive := Low) h (fun c => next_low s c) 7

/-- and what it means that exactly 204 entries reach the threshold: none of them is minus infinity. -/
theorem no_bot (h : cnt s (thr s (mean s) (dev s)) = lit 0x434C0000#32) (n : Fin 2048) : s n ≠ ⊥ := by
  intro e
  rw [mean_bot s ⟨n, e⟩, thr_low, cnt_bot, lit_204, EReal.coe_eq_coe_iff] at h
  norm_num at h

end Cert.Search
-- ==== Proof.Agree.lean ====
module

public import proofs.«01_k».proof.Proof.KernelRead
public import proofs.«01_k».proof.Proof.RefRead
public import proofs.«01_k».proof.Proof.MaskRead
public import proofs.«01_k».proof.Proof.Bottom

@[expose] public section

set_option maxRecDepth 16384

noncomputable section

/-! # The kernel and the reference agree

On real queries and keys, a row whose search has ended with exactly 204 entries
above its threshold has its kernel weights on the entries the reference picks, and the two
softmaxes are the same shares. -/

namespace Cert.Agree

open Cert.Search Cert.KernelIdeal.Row Cert.KernelIdeal.Body Cert.ReferenceIdeal.Picks Cert.ReferenceIdeal.Read
open Idealize.ShloMosaic

variable [Cert.On_search_converged.Facts]
variable (q k v : FVec Ideal Cert.KernelIdeal.S4x2048x1024 .f32) (p : FVec Ideal Cert.KernelIdeal.S1024x32 .f32)
variable (Q K : Cert.KernelIdeal.S4x2048x1024.Idx → ℝ)
variable (hq : q = fun i => (Q i : EReal)) (hk : k = fun i => (K i : EReal))

/-- The score of a query and a key, as a real number. -/
def score (a : Fin 4) (b n : Fin 2048) : ℝ :=
  (∑ e : Fin 1024, Q (ix3 (n0 := 4) (n1 := 2048) (n2 := 1024) a b e) * K (ix3 (n0 := 4) (n1 := 2048) (n2 := 1024) a n e)) * (1 / 32)

include hq hk in
/-- The reference divides the product by 32, -/
theorem score_ref (a : Fin 4) (b n : Fin 2048) :
    val_main_v33 (F := Ideal) q k (ix3 (n0 := 4) (n1 := 2048) (n2 := 2048) a b n) = (score Q K a b n : EReal) := by
  rw [score_at]
  subst hq hk
  simp only [← EReal.coe_mul, ← coe_sum, div_32]
  rfl

include hq hk in
/-- and the kernel scales the query first. -/
theorem score_ker (a : Fin 4) (b n : Fin 2048) :
    (∑ e, qrow q a b e * lit 0x3D000000#32 * krows k a n e) = (score Q K a b n : EReal) := by
  subst hq hk
  have h : score Q K a b n = ∑ e : Fin 1024, Q (ix3 (n0 := 4) (n1 := 2048) (n2 := 1024) a b e) * (1 / 32) * K (ix3 (n0 := 4) (n1 := 2048) (n2 := 1024) a n e) := by
    unfold score
    rw [Finset.sum_mul]
    exact Finset.sum_congr rfl fun e _ => by ring
  rw [h, lit_inv32]
  simp only [coe_sum, EReal.coe_mul]

/-- The kernel's threshold is the mask's, on a row the mask keeps. -/
theorem level_eq (a : Fin 4) (b : Fin 2048)
    (h : cnt (simM (qrow q a b) (krows k a) (pmat p)) (thr (simM (qrow q a b) (krows k a) (pmat p)) (mean (simM (qrow q a b) (krows k a) (pmat p)))
      (dev (simM (qrow q a b) (krows k a) (pmat p)))) = lit 0x434C0000#32) :
    level q k p a b = thr (simM (qrow q a b) (krows k a) (pmat p)) (mean (simM (qrow q a b) (krows k a) (pmat p))) (dev (simM (qrow q a b) (krows k a) (pmat p))) := by
  have e : simOf (projQ (qrow q a b) (pmat p)) (projK (krows k a) (pmat p)) = simM (qrow q a b) (krows k a) (pmat p) :=
    funext fun n => simK_eq (qrow q a b) (krows k a) (pmat p) n
  rw [← e] at h ⊢
  exact thr_eq _ _ (no_bot _ h)

/-- The mask's similarities are the reference's divided by 32, which keeps their order. -/
theorem simM_simR (a : Fin 4) (b n : Fin 2048) : simM (qrow q a b) (krows k a) (pmat p) n = simR q k p a b n * ((1 / 32 : ℝ) : EReal) := by
  rw [simR_at, ← Ideal.div_coe (by norm_num : (32 : ℝ) ≠ 0), ← lit_32]
  rfl

theorem order (a : Fin 4) (b m n : Fin 2048) (h : simM (qrow q a b) (krows k a) (pmat p) m < simM (qrow q a b) (krows k a) (pmat p) n) :
    simR q k p a b m < simR q k p a b n := by
  by_contra hc
  rw [simM_simR, simM_simR] at h
  exact absurd h (not_lt.mpr (mul_le_mul_of_nonneg_right (not_lt.mp hc) (EReal.coe_nonneg.mpr (by norm_num))))

/-- On a row the mask keeps, the entries that reach the kernel's threshold are those the reference picks. -/
theorem picks_eq (a : Fin 4) (b : Fin 2048) (c : Fin 1024)
    (h : Cert.On_search_converged.fn (F := Ideal) q k v p (ix3 (n0 := 4) (n1 := 2048) (n2 := 1024) a b c) = 1#1) :
    (∀ n, level q k p a b ≤ simK (qrow q a b) (krows k a) (pmat p) n ↔ ∃ r, pick (simR q k p a b) r = n)
      ∧ ∃ n, level q k p a b ≤ simK (qrow q a b) (krows k a) (pmat p) n := by
  have hc : (Finset.univ.filter fun n => level q k p a b ≤ simK (qrow q a b) (krows k a) (pmat p) n).card = 204 := by
    rw [show simK (qrow q a b) (krows k a) (pmat p) = simM (qrow q a b) (krows k a) (pmat p) from funext fun n => simK_eq _ _ _ n,
      level_eq q k p a b (Cert.On_search_converged.count_of_mask q k v p a b c h)]
    exact card_of_cnt _ _ (Cert.On_search_converged.count_of_mask q k v p a b c h)
  refine ⟨picked_iff (simR q k p a b) (fun n => level q k p a b ≤ simK (qrow q a b) (krows k a) (pmat p) n) hc fun m n hm hn => ?_, ?_⟩
  · refine order q k p a b m n ?_
    rw [← simK_eq, ← simK_eq]
    exact lt_of_lt_of_le (not_le.mp hm) hn
  · have hne : (Finset.univ.filter fun n => level q k p a b ≤ simK (qrow q a b) (krows k a) (pmat p) n).Nonempty :=
      Finset.card_pos.mp (by rw [hc]; decide)
    obtain ⟨n, hn⟩ := hne
    exact ⟨n, (Finset.mem_filter.mp hn).2⟩

/-- A row of the result lies in the block its number names. -/
theorem result_at (a : Fin 4) (b : Fin 2048) (c : Fin 1024) :
    result (F := Ideal) q k v p (ix3 (n0 := 4) (n1 := 2048) (n2 := 1024) a b c)
      = ∑ n, ((if level q k p a b ≤ simK (qrow q a b) (krows k a) (pmat p) n
            then Ideal.exp (∑ e, qrow q a b e * lit 0x3D000000#32 * krows k a n e) else 0)
          * Ideal.div 1 (∑ n, if level q k p a b ≤ simK (qrow q a b) (krows k a) (pmat p) n
            then Ideal.exp (∑ e, qrow q a b e * lit 0x3D000000#32 * krows k a n e) else 0)) * krows v a n c := by
  have h : rowOf ⟨b.val / 256, by have h : b.val < 2048 := b.isLt; omega⟩ ⟨b.val % 256, Nat.mod_lt _ (by decide)⟩ = b :=
    Fin.ext (Nat.div_add_mod' b.val 256)
  have e := block_at q k v p a ⟨b.val / 256, by have h : b.val < 2048 := b.isLt; omega⟩ ⟨b.val % 256, Nat.mod_lt _ (by decide)⟩ c
  rw [h] at e
  exact e

include hq hk in
/-- The two programs' outputs agree at every place the mask keeps. -/
theorem agree_at (a : Fin 4) (b : Fin 2048) (c : Fin 1024)
    (h : Cert.On_search_converged.fn (F := Ideal) q k v p (ix3 (n0 := 4) (n1 := 2048) (n2 := 1024) a b c) = 1#1) :
    result (F := Ideal) q k v p (ix3 (n0 := 4) (n1 := 2048) (n2 := 1024) a b c)
      = val_main_v49 (F := Ideal) q k v p (ix3 (n0 := 4) (n1 := 2048) (n2 := 1024) a b c) := by
  obtain ⟨hpick, hne⟩ := picks_eq q k v p a b c h
  rw [result_at, reference_at q k v p a b (fun n => level q k p a b ≤ simK (qrow q a b) (krows k a) (pmat p) n) (score Q K a b) hpick
    (fun n => score_ref q k Q K hq hk a b n) hne c]
  refine Finset.sum_congr rfl fun n _ => congrArg (fun x : EReal => x * krows v a n c) ?_
  refine Eq.trans ?_ (unshifted (fun n => level q k p a b ≤ simK (qrow q a b) (krows k a) (pmat p) n) (score Q K a b) hne n)
  simp only [score_ker q k Q K hq hk]

end Cert.Agree
-- ==== Proof.lean ====
/- The proof of the claims. The kernel's run, as printed and over the extended reals, is followed in
   Proof/PrintedLaunch.lean and Proof/Launch.lean; the reference's in Proof/RefFrame.lean; that the two
   results are the same numbers is Proof/Agree.lean. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.PrintedLaunch
public import proofs.«01_k».proof.Proof.Launch
public import proofs.«01_k».proof.Proof.RefFrame
public import proofs.«01_k».proof.Proof.Finite
public import proofs.«01_k».proof.Proof.Agree

@[expose] public section

set_option maxRecDepth 16384

noncomputable section

namespace Cert.Proof

open Idealize.ShloMosaic Idealize.SL.Sem

/-! ## The side conditions of the two predicates -/

theorem pre_facts : Cert.Pre_finite_inputs.Facts where
  bcast_S_S4x2048x1024 := by decide
  reducesTo_S4x2048x1024_S_d0_1_2 := by decide
  h_S_ := by decide

theorem mask_facts : Cert.On_search_converged.Facts where
  bcast_S_S4x2048x2048 := by decide
  reducesTo_S4x2048x2048_S4x2048_d2 := by decide
  h_S_ := by decide
  bcast_S_S4x2048 := by decide
  bcast_S4x2048_S4x2048x2048_0_1 := by decide
  bcast_S4x2048_S4x2048x1024_0_1 := by decide
  dot_S4x2048x1024_S1024x32_S4x2048x32_2_0_01_1_n_n_wf := by decide
  dot_S4x2048x32_S4x2048x32_S4x2048x2048_2_2_1_1_0_0_wf := by decide

attribute [local instance] pre_facts mask_facts

/-! ## The two results are equal where the mask is set -/

theorem equal (q k v : FVec Ideal Cert.KernelIdeal.S4x2048x1024 .f32) (p : FVec Ideal Cert.KernelIdeal.S1024x32 .f32)
    (hpre : Cert.Pre_finite_inputs.fn (F := Ideal) q k v p = fun _ => 1#1)
    (i : Cert.KernelIdeal.S4x2048x1024.Idx) (h : Cert.On_search_converged.fn (F := Ideal) q k v p i = 1#1) :
    Cert.KernelIdeal.Body.result (F := Ideal) q k v p i = Cert.ReferenceIdeal.Read.val_main_v49 (F := Ideal) q k v p i := by
  obtain ⟨hq, hk⟩ := Cert.Pre_finite_inputs.reals q k v p hpre
  have e : i = ix3 (n0 := 4) (n1 := 2048) (n2 := 1024) (i 0) (i 1) (i 2) :=
    funext fun a => match a with | ⟨0, _⟩ => rfl | ⟨1, _⟩ => rfl | ⟨2, _⟩ => rfl
  rw [e] at h ⊢
  exact Cert.Agree.agree_at q k v p (fun j => (q j : EReal).toReal) (fun j => (k j : EReal).toReal)
    (funext fun j => (hq j).symm) (funext fun j => (hk j).symm) (i 0) (i 1) (i 2) h

theorem algebraic : Cert.algebraic_KernelIdeal_ReferenceIdeal_on_search_converged_pre_finite_inputs := by
  intro m g m' g' hpre hargs
  refine ⟨fun c => Cert.KernelIdeal.Body.result (F := Ideal)
    (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run _ _ _).mono (fun r h c => ⟨fun i _ => congrFun (h c).1 i, (h c).2⟩) (Cert.KernelIdeal.Body.run (F := Ideal) m g)
  · refine (θ_run _ _ _).mono (fun r h c => ⟨fun i hi => ?_, (h c).2⟩) (Cert.ReferenceIdeal.Ends.run m' g')
    obtain ⟨h0, h1, h2, h3⟩ := hargs c
    refine (congrFun (h c).1 i).trans ?_
    rw [h0, h1, h2, h3]
    exact (equal _ _ _ _ (hpre c) i hi).symm

theorem claim : Cert.Claim :=
  ⟨Cert.Kernel.Gen.facts, Cert.KernelIdeal.Gen.facts, Cert.ReferenceIdeal.Gen.facts, pre_facts, mask_facts,
    fun m g _ => Cert.Kernel.Body.frame_ends m g, fun m g _ => Cert.KernelIdeal.Body.frame_ends m g, fun m g _ => Cert.KernelIdeal.Body.frame_ends m g,
    fun m g _ => Cert.ReferenceIdeal.Ends.frame_ends m g, fun m g _ => Cert.ReferenceIdeal.Ends.frame_ends m g, trivial, algebraic⟩

end Cert.Proof

end
